-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨3, ![2, 4096, 512]⟩ ⟨3, ![2, 4096, 2048]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 512]⟩ ⟨2, ![128, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 512]⟩ ⟨2, ![128, 2048]⟩ 1 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 4096, 512]⟩ ⟨3, ![2, 4096, 2048]⟩ 2 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S2x4096x512 : Shape := ⟨3, ![2, 4096, 512]⟩
abbrev S2x128 : Shape := ⟨2, ![2, 128]⟩
abbrev S128x512 : Shape := ⟨2, ![128, 512]⟩
abbrev S_ : Shape := ⟨0, ![]⟩

class Facts : Prop where
  bcast_S_S2x4096x512 : S_.BroadcastsInDim S2x4096x512 (![] : Fin 0 → Fin S2x4096x512.rank)

variable [Facts]

def fn {F : FTy → Type} [FloatOps F] (main_arg0 : FVec F S2x4096x512 .f32) (main_arg1 : FVec F S2x128 .f32) (main_arg2 : FVec F S128x512 .f32) (main_arg3 : FVec F S128x512 .f32) : IVec S2x4096x512 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  main_v2
-- ==== Pre_finite_x_ReferenceIdeal.lean ====
abbrev S2x4096x2048 : Shape := ⟨3, ![2, 4096, 2048]⟩
abbrev S2x128 : Shape := ⟨2, ![2, 128]⟩
abbrev S128x2048 : Shape := ⟨2, ![128, 2048]⟩
abbrev S_ : Shape := ⟨0, ![]⟩

class Facts : Prop where
  bcast_S_S2x4096x2048 : S_.BroadcastsInDim S2x4096x2048 (![] : Fin 0 → Fin S2x4096x2048.rank)

variable [Facts]

def fn {F : FTy → Type} [FloatOps F] (main_arg0 : FVec F S2x4096x2048 .f32) (main_arg1 : FVec F S2x128 .f32) (main_arg2 : FVec F S128x2048 .f32) (main_arg3 : FVec F S128x2048 .f32) : IVec S2x4096x2048 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  main_v2
-- ==== Kernel.lean ====
abbrev S2x4096x512 : Shape := ⟨3, ![2, 4096, 512]⟩
abbrev S2x128 : Shape := ⟨2, ![2, 128]⟩
abbrev S128x512 : Shape := ⟨2, ![128, 512]⟩
abbrev S2x512x512 : Shape := ⟨3, ![2, 512, 512]⟩
abbrev S4x2x512x512 : Shape := ⟨4, ![4, 2, 512, 512]⟩
abbrev S8x4x512 : Shape := ⟨3, ![8, 4, 512]⟩
abbrev S8x3x4x512 : Shape := ⟨4, ![8, 3, 4, 512]⟩
abbrev S2x2x512 : Shape := ⟨3, ![2, 2, 512]⟩
abbrev S8x3 : Shape := ⟨2, ![8, 3]⟩
abbrev S_ : Shape := ⟨0, ![]⟩
abbrev S2x512 : Shape := ⟨2, ![2, 512]⟩
abbrev S1x2x512 : Shape := ⟨3, ![1, 2, 512]⟩
abbrev S4x512 : Shape := ⟨2, ![4, 512]⟩
abbrev S1x4x512 : Shape := ⟨3, ![1, 4, 512]⟩
abbrev S1x2x512x512 : Shape := ⟨4, ![1, 2, 512, 512]⟩
abbrev S1x1 : Shape := ⟨2, ![1, 1]⟩
abbrev S1x1x4x512 : Shape := ⟨4, ![1, 1, 4, 512]⟩
abbrev S2x512x1 : Shape := ⟨3, ![2, 512, 1]⟩
abbrev S2x1x512 : Shape := ⟨3, ![2, 1, 512]⟩

abbrev nBuf : Space → Nat
  | .hbm => 5
  | .vmem => 11
  | .smem => 0
  | _ => 0

abbrev bufTy : (tb : Table) → Fin (tcTables nBuf tb) → BufTy
  | .hbm, ⟨0, _⟩ => ⟨S2x4096x512, .f32⟩
  | .hbm, ⟨1, _⟩ => ⟨S2x128, .f32⟩
  | .hbm, ⟨2, _⟩ => ⟨S128x512, .f32⟩
  | .hbm, ⟨3, _⟩ => ⟨S128x512, .f32⟩
  | .hbm, ⟨4, _⟩ => ⟨S2x4096x512, .f32⟩
  | .local _ .vmem, ⟨0, _⟩ => ⟨S2x512x512, .f32⟩
  | .local _ .vmem, ⟨1, _⟩ => ⟨S2x512x512, .f32⟩
  | .local _ .vmem, ⟨2, _⟩ => ⟨S2x128, .f32⟩
  | .local _ .vmem, ⟨3, _⟩ => ⟨S128x512, .f32⟩
  | .local _ .vmem, ⟨4, _⟩ => ⟨S128x512, .f32⟩
  | .local _ .vmem, ⟨5, _⟩ => ⟨S2x512x512, .f32⟩
  | .local _ .vmem, ⟨6, _⟩ => ⟨S2x512x512, .f32⟩
  | .local _ .vmem, ⟨7, _⟩ => ⟨S4x2x512x512, .f32⟩
  | .local _ .vmem, ⟨8, _⟩ => ⟨S8x4x512, .f32⟩
  | .local _ .vmem, ⟨9, _⟩ => ⟨S8x3x4x512, .f32⟩
  | .local _ .vmem, ⟨10, _⟩ => ⟨S2x2x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 1 55 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev barrier0 : Sem sig := 0

abbrev nD : Nat := 4
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_0 : BitVec 32 := 0#32
  let v6 : BitVec 1 := Scalar.cmpi .ne v5 c0_i32_0
  v6

def k0_dev1 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v22 : BitVec 32 := Scalar.addi v2 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_17 : BitVec 32 := 1#32
  let v33 : BitVec 32 := Scalar.muli v32 c1_i32_17
  let v34 : BitVec 32 := Scalar.addi c0_i32_18 v33
  v34.toNat
def k0_dev2 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v35 : BitVec 32 := Scalar.addi v2 c2_i32
  let c4_i32_19 : BitVec 32 := 4#32
  let c0_i32_20 : BitVec 32 := 0#32
  let v36 : BitVec 1 := Scalar.cmpi .eq c4_i32_19 c0_i32_20
  let c1_i32_21 : BitVec 32 := 1#32
  let v37 : BitVec 32 := Scalar.select v36 c1_i32_21 c4_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_26 : BitVec 32 := 1#32
  let v46 : BitVec 32 := Scalar.muli v45 c1_i32_26
  let v47 : BitVec 32 := Scalar.addi c0_i32_27 v46
  v47.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_28 : BitVec 32 := 3#32
  let v48 : BitVec 32 := Scalar.addi v2 c3_i32_28
  let c4_i32_29 : BitVec 32 := 4#32
  let c0_i32_30 : BitVec 32 := 0#32
  let v49 : BitVec 1 := Scalar.cmpi .eq c4_i32_29 c0_i32_30
  let c1_i32_31 : BitVec 32 := 1#32
  let v50 : BitVec 32 := Scalar.select v49 c1_i32_31 c4_i32_29
  let v51 : BitVec 32 := Scalar.remsi v48 v50
  let c0_i32_33 : BitVec 32 := 0#32
  let v53 : BitVec 1 := Scalar.cmpi .slt v51 c0_i32_33
  let c0_i32_34 : BitVec 32 := 0#32
  let v54 : BitVec 1 := Scalar.cmpi .slt v50 c0_i32_34
  let v55 : BitVec 1 := Scalar.xori v53 v54
  let c0_i32_32 : BitVec 32 := 0#32
  let v52 : BitVec 1 := Scalar.cmpi .ne v51 c0_i32_32
  let v56 : BitVec 1 := Scalar.andi v55 v52
  let v57 : BitVec 32 := Scalar.addi v51 v50
  let v58 : BitVec 32 := Scalar.select v56 v57 v51
  let c1_i32_36 : BitVec 32 := 1#32
  let v59 : BitVec 32 := Scalar.muli v58 c1_i32_36
  let v60 : BitVec 32 := Scalar.addi c0_i32_37 v59
  v60.toNat
def k0_cond3 (i : grid0.Coords) : BitVec 1 :=
  let arg0 : BitVec 32 := BitVec.ofNat 32 (i 0).val
  let c8_i32 : BitVec 32 := 8#32
  let v10 : BitVec 1 := Scalar.cmpi .slt arg0 c8_i32
  let v11 : BitVec 32 := Scalar.extui v10
  let c0_i32_3 : BitVec 32 := 0#32
  let v12 : BitVec 1 := Scalar.cmpi .ne v11 c0_i32_3
  v12

def k0_off1 (i : grid0.Coords) : Fin 3 → Nat :=
  let arg0 : BitVec 32 := BitVec.ofNat 32 (i 0).val
  let v28 : Index := Scalar.indexCast arg0
  let c0_12 : Index := 0#32
  let c0_13 : Index := 0#32
  ![v28.toNat, 0, 0]
def k0_off2 (i : grid0.Coords) : Fin 4 → Nat :=
  let arg0 : BitVec 32 := BitVec.ofNat 32 (i 0).val
  let c4_i32_14 : BitVec 32 := 4#32
  let v32 : BitVec 32 := Scalar.remsi arg0 c4_i32_14
  let v33 : Index := Scalar.indexCast v32
  let c0_15 : Index := 0#32
  let c0_16 : Index := 0#32
  let c0_17 : Index := 0#32
  ![v33.toNat, 0, 0, 0]
def k0_cond5 (i : grid0.Coords) : BitVec 1 :=
  let arg0 : BitVec 32 := BitVec.ofNat 32 (i 0).val
  let c8_i32_6 : BitVec 32 := 8#32
  let v16 : BitVec 1 := Scalar.cmpi .slt arg0 c8_i32_6
  let v17 : BitVec 32 := Scalar.extui v16
  let c0_i32_7 : BitVec 32 := 0#32
  let v18 : BitVec 1 := Scalar.cmpi .ne v17 c0_i32_7
  v18

def k0_off3 (i : grid0.Coords) : Fin 2 → Nat :=
  let arg0 : BitVec 32 := BitVec.ofNat 32 (i 0).val
  let c0_i32_17 : BitVec 32 := 0#32
  ![arg0.toNat, 0]
def k0_off4 (i : grid0.Coords) : Fin 2 → Nat :=
  let arg0 : BitVec 32 := BitVec.ofNat 32 (i 0).val
  let c2_i32_16 : BitVec 32 := 2#32
  ![arg0.toNat, 2]
def k0_off5 (i : grid0.Coords) : Fin 4 → Nat :=
  let arg0 : BitVec 32 := BitVec.ofNat 32 (i 0).val
  let c2_i32 : BitVec 32 := 2#32
  let c0_i32_20 : BitVec 32 := 0#32
  let c0_i32_21 : BitVec 32 := 0#32
  ![arg0.toNat, 2, 0, 0]
def k0_off6 (i : grid0.Coords) : Fin 3 → Nat :=
  let arg0 : BitVec 32 := BitVec.ofNat 32 (i 0).val
  let c0_i32_22 : BitVec 32 := 0#32
  let c0_i32_23 : BitVec 32 := 0#32
  ![arg0.toNat, 0, 0]
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_9 : BitVec 32 := 1#32
  let v22 : BitVec 32 := Scalar.addi v2 c1_i32_9
  let c4_i32_10 : BitVec 32 := 4#32
  let c0_i32_11 : BitVec 32 := 0#32
  let v23 : BitVec 1 := Scalar.cmpi .eq c4_i32_10 c0_i32_11
  let c1_i32_12 : BitVec 32 := 1#32
  let v24 : BitVec 32 := Scalar.select v23 c1_i32_12 c4_i32_10
  let v25 : BitVec 32 := Scalar.remsi v22 v24
  let c0_i32_14 : BitVec 32 := 0#32
  let v27 : BitVec 1 := Scalar.cmpi .slt v25 c0_i32_14
  let c0_i32_15 : BitVec 32 := 0#32
  let v28 : BitVec 1 := Scalar.cmpi .slt v24 c0_i32_15
  let v29 : BitVec 1 := Scalar.xori v27 v28
  let c0_i32_13 : BitVec 32 := 0#32
  let v26 : BitVec 1 := Scalar.cmpi .ne v25 c0_i32_13
  let v30 : BitVec 1 := Scalar.andi v29 v26
  let v31 : BitVec 32 := Scalar.addi v25 v24
  let v32 : BitVec 32 := Scalar.select v30 v31 v25
  let c1_i32_18 : BitVec 32 := 1#32
  let v33 : BitVec 32 := Scalar.muli v32 c1_i32_18
  let v34 : BitVec 32 := Scalar.addi c0_i32_19 v33
  v34.toNat
def k0_off7 (i : grid0.Coords) : Fin 2 → Nat :=
  let arg0 : BitVec 32 := BitVec.ofNat 32 (i 0).val
  let c1_i32_33 : BitVec 32 := 1#32
  ![arg0.toNat, 1]
def k0_off8 (i : grid0.Coords) : Fin 4 → Nat :=
  let arg0 : BitVec 32 := BitVec.ofNat 32 (i 0).val
  let c1_i32_31 : BitVec 32 := 1#32
  let c0_i32_36 : BitVec 32 := 0#32
  let c0_i32_37 : BitVec 32 := 0#32
  ![arg0.toNat, 1, 0, 0]
def k0_dev5 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_24 : BitVec 32 := 2#32
  let v43 : BitVec 32 := Scalar.addi v2 c2_i32_24
  let c4_i32_25 : BitVec 32 := 4#32
  let c0_i32_26 : BitVec 32 := 0#32
  let v44 : BitVec 1 := Scalar.cmpi .eq c4_i32_25 c0_i32_26
  let c1_i32_27 : BitVec 32 := 1#32
  let v45 : BitVec 32 := Scalar.select v44 c1_i32_27 c4_i32_25
  let v46 : BitVec 32 := Scalar.remsi v43 v45
  let c0_i32_29 : BitVec 32 := 0#32
  let v48 : BitVec 1 := Scalar.cmpi .slt v46 c0_i32_29
  let c0_i32_30 : BitVec 32 := 0#32
  let v49 : BitVec 1 := Scalar.cmpi .slt v45 c0_i32_30
  let v50 : BitVec 1 := Scalar.xori v48 v49
  let c0_i32_28 : BitVec 32 := 0#32
  let v47 : BitVec 1 := Scalar.cmpi .ne v46 c0_i32_28
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_off9 (i : grid0.Coords) : Fin 4 → Nat :=
  let arg0 : BitVec 32 := BitVec.ofNat 32 (i 0).val
  let c0_i32_47 : BitVec 32 := 0#32
  let c0_i32_52 : BitVec 32 := 0#32
  let c0_i32_53 : BitVec 32 := 0#32
  ![arg0.toNat, 0, 0, 0]
def k0_dev6 (d0 : Dev nD) : Nat :=
  let c0_i32_51 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_40 : BitVec 32 := 3#32
  let v64 : BitVec 32 := Scalar.addi v2 c3_i32_40
  let c4_i32_41 : BitVec 32 := 4#32
  let c0_i32_42 : BitVec 32 := 0#32
  let v65 : BitVec 1 := Scalar.cmpi .eq c4_i32_41 c0_i32_42
  let c1_i32_43 : BitVec 32 := 1#32
  let v66 : BitVec 32 := Scalar.select v65 c1_i32_43 c4_i32_41
  let v67 : BitVec 32 := Scalar.remsi v64 v66
  let c0_i32_45 : BitVec 32 := 0#32
  let v69 : BitVec 1 := Scalar.cmpi .slt v67 c0_i32_45
  let c0_i32_46 : BitVec 32 := 0#32
  let v70 : BitVec 1 := Scalar.cmpi .slt v66 c0_i32_46
  let v71 : BitVec 1 := Scalar.xori v69 v70
  let c0_i32_44 : BitVec 32 := 0#32
  let v68 : BitVec 1 := Scalar.cmpi .ne v67 c0_i32_44
  let v72 : BitVec 1 := Scalar.andi v71 v68
  let v73 : BitVec 32 := Scalar.addi v67 v66
  let v74 : BitVec 32 := Scalar.select v72 v73 v67
  let c1_i32_50 : BitVec 32 := 1#32
  let v75 : BitVec 32 := Scalar.muli v74 c1_i32_50
  let v76 : BitVec 32 := Scalar.addi c0_i32_51 v75
  v76.toNat
def k0_cond6 (i : grid0.Coords) : BitVec 1 :=
  let arg0 : BitVec 32 := BitVec.ofNat 32 (i 0).val
  let c3_i32 : BitVec 32 := 3#32
  let v19 : BitVec 1 := Scalar.cmpi .sge arg0 c3_i32
  let v20 : BitVec 32 := Scalar.extui v19
  let c0_i32_8 : BitVec 32 := 0#32
  let v21 : BitVec 1 := Scalar.cmpi .ne v20 c0_i32_8
  v21

def k0_off10 (i : grid0.Coords) : Fin 2 → Nat :=
  let arg0 : BitVec 32 := BitVec.ofNat 32 (i 0).val
  let c3_i32_9 : BitVec 32 := 3#32
  let v22 : BitVec 32 := Scalar.subi arg0 c3_i32_9
  let c0_i32_11 : BitVec 32 := 0#32
  ![v22.toNat, 0]
def k0_off11 (i : grid0.Coords) : Fin 4 → Nat :=
  let arg0 : BitVec 32 := BitVec.ofNat 32 (i 0).val
  let c3_i32_9 : BitVec 32 := 3#32
  let v22 : BitVec 32 := Scalar.subi arg0 c3_i32_9
  let c0_i32_10 : BitVec 32 := 0#32
  let c0_i32_15 : BitVec 32 := 0#32
  let c0_i32_16 : BitVec 32 := 0#32
  ![v22.toNat, 0, 0, 0]
def k0_off12 (i : grid0.Coords) : Fin 3 → Nat :=
  let arg0 : BitVec 32 := BitVec.ofNat 32 (i 0).val
  let c3_i32_9 : BitVec 32 := 3#32
  let v22 : BitVec 32 := Scalar.subi arg0 c3_i32_9
  let c0_i32_17 : BitVec 32 := 0#32
  let c0_i32_18 : BitVec 32 := 0#32
  ![v22.toNat, 0, 0]
def k0_off13 (i : grid0.Coords) : Fin 2 → Nat :=
  let arg0 : BitVec 32 := BitVec.ofNat 32 (i 0).val
  let c3_i32_9 : BitVec 32 := 3#32
  let v22 : BitVec 32 := Scalar.subi arg0 c3_i32_9
  let c1_i32_28 : BitVec 32 := 1#32
  ![v22.toNat, 1]
def k0_off14 (i : grid0.Coords) : Fin 4 → Nat :=
  let arg0 : BitVec 32 := BitVec.ofNat 32 (i 0).val
  let c3_i32_9 : BitVec 32 := 3#32
  let v22 : BitVec 32 := Scalar.subi arg0 c3_i32_9
  let c1_i32_27 : BitVec 32 := 1#32
  let c0_i32_32 : BitVec 32 := 0#32
  let c0_i32_33 : BitVec 32 := 0#32
  ![v22.toNat, 1, 0, 0]
def k0_off15 (i : grid0.Coords) : Fin 2 → Nat :=
  let arg0 : BitVec 32 := BitVec.ofNat 32 (i 0).val
  let c3_i32_9 : BitVec 32 := 3#32
  let v22 : BitVec 32 := Scalar.subi arg0 c3_i32_9
  let c2_i32_44 : BitVec 32 := 2#32
  ![v22.toNat, 2]
def k0_off16 (i : grid0.Coords) : Fin 4 → Nat :=
  let arg0 : BitVec 32 := BitVec.ofNat 32 (i 0).val
  let c3_i32_9 : BitVec 32 := 3#32
  let v22 : BitVec 32 := Scalar.subi arg0 c3_i32_9
  let c2_i32 : BitVec 32 := 2#32
  let c0_i32_48 : BitVec 32 := 0#32
  let c0_i32_49 : BitVec 32 := 0#32
  ![v22.toNat, 2, 0, 0]
def k0_off17 (i : grid0.Coords) : Fin 3 → Nat :=
  let arg0 : BitVec 32 := BitVec.ofNat 32 (i 0).val
  let c3_i32_9 : BitVec 32 := 3#32
  let v22 : BitVec 32 := Scalar.subi arg0 c3_i32_9
  let v65 : Index := Scalar.indexCast v22
  let c0 : Index := 0#32
  let c0_60 : Index := 0#32
  ![v65.toNat, 0, 0]
def k0_off18 (i : grid0.Coords) : Fin 4 → Nat :=
  let arg0 : BitVec 32 := BitVec.ofNat 32 (i 0).val
  let c3_i32_9 : BitVec 32 := 3#32
  let v22 : BitVec 32 := Scalar.subi arg0 c3_i32_9
  let v68 : Index := Scalar.indexCast v22
  let c0_61 : Index := 0#32
  let c0_62 : Index := 0#32
  let c0_63 : Index := 0#32
  ![v68.toNat, 0, 0, 0]
def k0_off19 (i : grid0.Coords) : Fin 4 → Nat :=
  let arg0 : BitVec 32 := BitVec.ofNat 32 (i 0).val
  let c3_i32_9 : BitVec 32 := 3#32
  let v22 : BitVec 32 := Scalar.subi arg0 c3_i32_9
  let v72 : Index := Scalar.indexCast v22
  let c1 : Index := 1#32
  let c0_64 : Index := 0#32
  let c0_65 : Index := 0#32
  ![v72.toNat, 1, 0, 0]
def k0_off20 (i : grid0.Coords) : Fin 4 → Nat :=
  let arg0 : BitVec 32 := BitVec.ofNat 32 (i 0).val
  let c3_i32_9 : BitVec 32 := 3#32
  let v22 : BitVec 32 := Scalar.subi arg0 c3_i32_9
  let v76 : Index := Scalar.indexCast v22
  let c2 : Index := 2#32
  let c0_66 : Index := 0#32
  let c0_67 : Index := 0#32
  ![v76.toNat, 2, 0, 0]
def k0_off21 (i : grid0.Coords) : Fin 4 → Nat :=
  let arg0 : BitVec 32 := BitVec.ofNat 32 (i 0).val
  let c3_i32_9 : BitVec 32 := 3#32
  let v22 : BitVec 32 := Scalar.subi arg0 c3_i32_9
  let c4_i32_70 : BitVec 32 := 4#32
  let v91 : BitVec 32 := Scalar.remsi v22 c4_i32_70
  let v92 : Index := Scalar.indexCast v91
  let c0_71 : Index := 0#32
  let c0_72 : Index := 0#32
  let c0_73 : Index := 0#32
  ![v92.toNat, 0, 0, 0]
def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x4096x2048 : Shape := ⟨3, ![2, 4096, 2048]⟩
abbrev S2x128 : Shape := ⟨2, ![2, 128]⟩
abbrev S128x2048 : Shape := ⟨2, ![128, 2048]⟩
abbrev S_ : Shape := ⟨0, ![]⟩
abbrev S2x4096 : Shape := ⟨2, ![2, 4096]⟩
abbrev S2x4096x1 : Shape := ⟨3, ![2, 4096, 1]⟩
abbrev S2x2048 : Shape := ⟨2, ![2, 2048]⟩
abbrev S2x1x2048 : Shape := ⟨3, ![2, 1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x128, .f32⟩
  | .hbm, ⟨2, _⟩ => ⟨S128x2048, .f32⟩
  | .hbm, ⟨3, _⟩ => ⟨S128x2048, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .i32⟩
  | .hbm, ⟨11, _⟩ => ⟨S_, .f32⟩
  | .hbm, ⟨12, _⟩ => ⟨S2x4096, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x2048, .f32⟩
  | .hbm, ⟨18, _⟩ => ⟨S2x4096x2048, .f32⟩
  | .hbm, ⟨19, _⟩ => ⟨S2x4096x2048, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S2x4096, .f32⟩
  | .hbm, ⟨25, _⟩ => ⟨S2x4096x1, .f32⟩
  | .hbm, ⟨26, _⟩ => ⟨S2x4096x1, .f32⟩
  | .hbm, ⟨27, _⟩ => ⟨S2x4096x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x2048, .f32⟩
  | .hbm, ⟨35, _⟩ => ⟨S2x4096x2048, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x1, .f32⟩
  | .hbm, ⟨40, _⟩ => ⟨S2x4096x2048, .f32⟩
  | .hbm, ⟨41, _⟩ => ⟨S2x4096x2048, .f32⟩
  | .hbm, ⟨42, _⟩ => ⟨S2x2048, .f32⟩
  | .hbm, ⟨43, _⟩ => ⟨S2x2048, .f32⟩
  | .hbm, ⟨44, _⟩ => ⟨S2x1x2048, .f32⟩
  | .hbm, ⟨45, _⟩ => ⟨S_, .f32⟩
  | .hbm, ⟨46, _⟩ => ⟨S2x1x2048, .f32⟩
  | .hbm, ⟨47, _⟩ => ⟨S2x1x2048, .f32⟩
  | .hbm, ⟨48, _⟩ => ⟨S2x4096x2048, .f32⟩
  | .hbm, ⟨49, _⟩ => ⟨S2x4096x2048, .f32⟩
  | .hbm, ⟨50, _⟩ => ⟨S2x1x2048, .f32⟩
  | .hbm, ⟨51, _⟩ => ⟨S2x4096x2048, .f32⟩
  | .hbm, ⟨52, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.KernelIdeal.Views.lean ====
/-
# The two statistics buffers, piece by piece

`lM` is the buffer of a device's own statistics (eight rows, one per block of
its columns) and `rM` the buffer of the statistics received from the three
other devices (eight rows of three slots). Every access of the kernel to them,
and every remote copy, is of one row of `lM` or of one slot of `rM`. This module
names these pieces, says which elements they are, that they cover their buffers
without overlap, and what each holds when it is filled.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.KernelIdeal.Stats

open Cert.KernelIdeal Cert.KernelIdeal.Gen
open Idealize.ShloMosaic Idealize.ShloMosaic.TcCoe Idealize.ShloMosaic.ValueIdx

variable {F : FTy → Type} [FloatOps F]

/-! ## The mesh -/

/-- The device `e + 1` places after `c` around the mesh. -/
def pr (c : Dev nD) (e : Fin 3) : Dev nD := ⟨(c.val + e.val + 1) % 4, Nat.mod_lt _ (by decide)⟩

/-- Going `e + 1` places forward and then `3 - e` places forward is going all the way round. -/
theorem pr_rev (c : Dev nD) (e : Fin 3) : pr (pr c e) e.rev = c := by revert c e; decide
theorem pr_rev' (c : Dev nD) (e : Fin 3) : pr (pr c e.rev) e = c := by revert c e; decide
theorem pr_inj (c c' : Dev nD) (e e' : Fin 3) : pr c e = pr c' e.rev.rev → c = c' := by revert c c' e; decide

/-- Device numbers the kernel computes for its signals and its copies. -/
theorem dev1_eq (c : Dev nD) (h) : (⟨k0_dev1 c, h⟩ : Dev nD) = pr c 0 := Fin.ext (by revert c; decide +kernel)
theorem dev2_eq (c : Dev nD) (h) : (⟨k0_dev2 c, h⟩ : Dev nD) = pr c 1 := Fin.ext (by revert c; decide +kernel)
theorem dev3_eq (c : Dev nD) (h) : (⟨k0_dev3 c, h⟩ : Dev nD) = pr c 2 := Fin.ext (by revert c; decide +kernel)
theorem dev4_eq (c : Dev nD) (h) : (⟨k0_dev4 c, h⟩ : Dev nD) = pr c 0 := Fin.ext (by revert c; decide +kernel)
theorem dev5_eq (c : Dev nD) (h) : (⟨k0_dev5 c, h⟩ : Dev nD) = pr c 1 := Fin.ext (by revert c; decide +kernel)
theorem dev6_eq (c : Dev nD) (h) : (⟨k0_dev6 c, h⟩ : Dev nD) = pr c 2 := Fin.ext (by revert c; decide +kernel)

/-! ## The buffers and their pieces -/

abbrev sM : Memref sig .tc .vmem S4x2x512x512 .f32 := Memref.whole cc0_scratch0
abbrev lM : Memref sig .tc .vmem S8x4x512 .f32 := Memref.whole cc0_scratch1
abbrev rM : Memref sig .tc .vmem S8x3x4x512 .f32 := Memref.whole cc0_scratch2
abbrev gM : Memref sig .tc .vmem S2x2x512 .f32 := Memref.whole cc0_scratch3

theorem row_inb (k : Fin 8) : ∀ a, (![k.val, 0, 0] : Fin 3 → ℕ) a + S1x4x512.size a ≤ S8x4x512.size a := by
  revert k; decide
theorem slot_inb (k : Fin 8) (e : Fin 3) : ∀ a, (![k.val, e.val, 0, 0] : Fin 4 → ℕ) a + S1x1x4x512.size a ≤ S8x3x4x512.size a := by
  revert k e; decide
theorem sem_inb (k : Fin 8) (e : Fin 3) : ∀ a, (![k.val, e.val] : Fin 2 → ℕ) a + S1x1.size a ≤ S8x3.size a := by
  revert k e; decide

/-- Row `k` of the device's own statistics, and slot `e` of row `k` of the received ones. -/
abbrev rowR (k : Fin 8) : Rect S8x4x512 := Rect.unit (s := S8x4x512) ![k.val, 0, 0] S1x4x512.size (row_inb k)
abbrev slotR (k : Fin 8) (e : Fin 3) : Rect S8x3x4x512 := Rect.unit (s := S8x3x4x512) ![k.val, e.val, 0, 0] S1x1x4x512.size (slot_inb k e)
abbrev rowM (k : Fin 8) : Memref sig .tc .vmem S4x512 .f32 :=
  ((lM.slice (rowR k) (fun _ => rfl) : Memref sig .tc .vmem S1x4x512 .f32)).squeeze S4x512 squeezes_S1x4x512_S4x512
abbrev slotM (k : Fin 8) (e : Fin 3) : Memref sig .tc .vmem S4x512 .f32 :=
  ((rM.slice (slotR k e) (fun _ => rfl) : Memref sig .tc .vmem S1x1x4x512 .f32)).squeeze S4x512 squeezes_S1x1x4x512_S4x512

/-- The elements of these pieces. -/
abbrev rowSet (k : Fin 8) : Finset S8x4x512.Idx := (rowR k).set
abbrev slotSet (k : Fin 8) (e : Fin 3) : Finset S8x3x4x512.Idx := (slotR k e).set

theorem mem_rowSet (k : Fin 8) (i : S8x4x512.Idx) : i ∈ rowSet k ↔ (i 0).val = k.val := by
  rw [Rect.mem_set_unit]
  constructor
  · intro h; have h0 := h 0; simp at h0; omega
  · intro h a
    have h1 := (i 1).isLt; have h2 := (i 2).isLt
    fin_cases a <;> simp_all

theorem mem_slotSet (k : Fin 8) (e : Fin 3) (i : S8x3x4x512.Idx) : i ∈ slotSet k e ↔ (i 0).val = k.val ∧ (i 1).val = e.val := by
  rw [Rect.mem_set_unit]
  constructor
  · intro h; have h0 := h 0; have h1 := h 1; simp at h0 h1; omega
  · rintro ⟨h, h'⟩ a
    have h1 := (i 2).isLt; have h2 := (i 3).isLt
    fin_cases a <;> simp_all

theorem row_disjoint (k k' : Fin 8) (h : k ≠ k') : Disjoint (rowSet k) (rowSet k') :=
  Finset.disjoint_left.mpr fun i hi hi' => h (Fin.ext (((mem_rowSet k i).mp hi).symm.trans ((mem_rowSet k' i).mp hi')))
theorem slot_disjoint (p p' : Fin 8 × Fin 3) (h : p ≠ p') : Disjoint (slotSet p.1 p.2) (slotSet p'.1 p'.2) :=
  Finset.disjoint_left.mpr fun i hi hi' => h (by
    have a := (mem_slotSet _ _ i).mp hi; have b := (mem_slotSet _ _ i).mp hi'
    exact Prod.ext (Fin.ext (a.1.symm.trans b.1)) (Fin.ext (a.2.symm.trans b.2)))

theorem rows_cover : (Finset.univ : Finset (Fin 8)).biUnion rowSet = Finset.univ := by
  ext i
  simp only [Finset.mem_biUnion, Finset.mem_univ, true_and, iff_true]
  exact ⟨⟨(i 0).val, (i 0).isLt⟩, (mem_rowSet _ _).mpr rfl⟩
theorem slots_cover : (Finset.univ : Finset (Fin 8 × Fin 3)).biUnion (fun p => slotSet p.1 p.2) = Finset.univ := by
  ext i
  simp only [Finset.mem_biUnion, Finset.mem_univ, true_and, iff_true]
  exact ⟨(⟨(i 0).val, (i 0).isLt⟩, ⟨(i 1).val, (i 1).isLt⟩), (mem_slotSet _ _ _).mpr ⟨rfl, rfl⟩⟩

theorem rowM_set (k : Fin 8) : (rowM k).view.set = rowSet k := by
  show ((View.whole cc0_scratch1).slice (rowR k) |>.reshape S4x512 _).set = _
  rw [View.set_reshape, View.set_slice_whole]
theorem slotM_set (k : Fin 8) (e : Fin 3) : (slotM k e).view.set = slotSet k e := by
  show ((View.whole cc0_scratch2).slice (slotR k e) |>.reshape S4x512 _).set = _
  rw [View.set_reshape, View.set_slice_whole]

/-! ## Contents -/

variable (m : (ℓ : Loc nD τ sig) → Buf (Elt F) ℓ)

/-- The point of the grid at which block `k` is summed. -/
def tt (k : Fin 8) : Fin cfg0.N := ⟨k.val, by have := N_0; have := k.isLt; show k.val < grid0.N; omega⟩

/-- Block `k` of device `c`'s columns of the input. -/
def X (c : Dev nD) (k : Fin 8) : Vec F S2x512x512 .f32 := iblk m c 0 (tt k)

/-- Device `c`'s own statistics, all rows filled. -/
def LB (c : Dev nD) : S8x4x512.Idx → Elt F .f32 :=
  fun i => k0_pay4 (X m c ⟨(i 0).val, (i 0).isLt⟩) (ix3 (0 : Fin 1) ⟨(i 1).val, (i 1).isLt⟩ ⟨(i 2).val, (i 2).isLt⟩)

/-- The statistics device `c` receives, all slots filled: slot `e` comes from the device `e + 1` places on. -/
def RB (c : Dev nD) : S8x3x4x512.Idx → Elt F .f32 :=
  fun i => LB m (pr c ⟨(i 1).val, (i 1).isLt⟩) (ix3 ⟨(i 0).val, (i 0).isLt⟩ ⟨(i 2).val, (i 2).isLt⟩ ⟨(i 3).val, (i 3).isLt⟩)

theorem LB_apply (c : Dev nD) (k : Fin 8) (a : Fin 4) (b : Fin 512) : LB m c (ix3 k a b) = k0_pay4 (X m c k) (ix3 (0 : Fin 1) a b) := rfl
theorem RB_apply (c : Dev nD) (k : Fin 8) (e : Fin 3) (a : Fin 4) (b : Fin 512) : RB m c (ix4 k e a b) = LB m (pr c e) (ix3 k a b) := rfl

/-- Where the elements of a row and of a slot lie in their buffers. -/
theorem rowR_emb (k : Fin 8) (a : Fin 4) (b : Fin 512) : (rowR k).emb (ix3 (0 : Fin 1) a b) = ix3 k a b := by
  funext d; refine Fin.ext ?_
  match d with
  | ⟨0, _⟩ => show k.val + 1 * 0 = k.val; omega
  | ⟨1, _⟩ => show 0 + 1 * a.val = a.val; omega
  | ⟨2, _⟩ => show 0 + 1 * b.val = b.val; omega
theorem slotR_emb (k : Fin 8) (e : Fin 3) (a : Fin 4) (b : Fin 512) : (slotR k e).emb (ix4 (0 : Fin 1) (0 : Fin 1) a b) = ix4 k e a b := by
  funext d; refine Fin.ext ?_
  match d with
  | ⟨0, _⟩ => show k.val + 1 * 0 = k.val; omega
  | ⟨1, _⟩ => show e.val + 1 * 0 = e.val; omega
  | ⟨2, _⟩ => show 0 + 1 * a.val = a.val; omega
  | ⟨3, _⟩ => show 0 + 1 * b.val = b.val; omega

theorem eq_ix3_one {a b : ℕ} (j : (⟨3, ![1, a, b]⟩ : Shape).Idx) : ∃ (x : Fin a) (y : Fin b), j = ix3 (0 : Fin 1) x y :=
  ⟨j 1, j 2, funext fun d => match d with
    | ⟨0, _⟩ => Fin.ext (by have h : (j 0).val < 1 := (j 0).isLt; show (j 0).val = 0; omega)
    | ⟨1, _⟩ => rfl
    | ⟨2, _⟩ => rfl⟩
theorem eq_ix4_one_one {a b : ℕ} (j : (⟨4, ![1, 1, a, b]⟩ : Shape).Idx) : ∃ (x : Fin a) (y : Fin b), j = ix4 (0 : Fin 1) (0 : Fin 1) x y :=
  ⟨j 2, j 3, funext fun d => match d with
    | ⟨0, _⟩ => Fin.ext (by have h : (j 0).val < 1 := (j 0).isLt; show (j 0).val = 0; omega)
    | ⟨1, _⟩ => Fin.ext (by have h : (j 1).val < 1 := (j 1).isLt; show (j 1).val = 0; omega)
    | ⟨2, _⟩ => rfl
    | ⟨3, _⟩ => rfl⟩

/-- Block `k`'s statistics of the device `e + 1` places on, as device `c` reads them from slot `e`. -/
def slotVal (c : Dev nD) (k : Fin 8) (e : Fin 3) : Vec F S1x1x4x512 .f32 := fun j => LB m (pr c e) (ix3 k (j 2) (j 3))

/-- Reading the filled row `k` gives block `k`'s statistics. -/
theorem read_row (c : Dev nD) (k : Fin 8) :
    lM.view.readAt (Elt F) (rowR k).toLoadRect (LB m c) = k0_pay4 (X m c k) := by
  funext j
  show LB m c ((rowR k).emb j) = _
  obtain ⟨a, b, rfl⟩ := eq_ix3_one (a := 4) (b := 512) j
  exact (congrArg (LB m c) (rowR_emb k a b)).trans (LB_apply m c k a b)

/-- Reading the filled slot `e` of row `k` gives what the device `e + 1` places on sent. -/
theorem read_slot (c : Dev nD) (k : Fin 8) (e : Fin 3) :
    rM.view.readAt (Elt F) (slotR k e).toLoadRect (RB m c) = slotVal m c k e := by
  funext j
  show RB m c ((slotR k e).emb j) = _
  obtain ⟨a, b, rfl⟩ := eq_ix4_one_one (a := 4) (b := 512) j
  exact (congrArg (RB m c) (slotR_emb k e a b)).trans (RB_apply m c k e a b)

/-- Storing block `k`'s statistics fills row `k`. -/
theorem write_row (c : Dev nD) (k : Fin 8) (f : S8x4x512.Idx → Elt F .f32) (i : S8x4x512.Idx) (hi : i ∈ rowSet k) :
    (lM.access (rowR k)).write (Elt F) f (k0_pay4 (X m c k)) Finset.univ i = LB m c i := by
  rw [← read_row m c k]
  show ((View.whole cc0_scratch1).slice (rowR k)).write (Elt F) f (((View.whole cc0_scratch1).slice (rowR k)).read (Elt F) (LB m c)) Finset.univ i = _
  rw [View.write_read_eq_piecewise, Finset.piecewise_eq_of_mem]
  rw [View.setOn_univ, View.set_slice_whole]; exact hi

/-- A copy of row `k` of the device `e + 1` places on fills slot `e` of row `k`. -/
theorem land_slot (c : Dev nD) (k : Fin 8) (e : Fin 3) (f : S8x3x4x512.Idx → Elt F .f32) (i : S8x3x4x512.Idx) (hi : i ∈ slotSet k e) :
    (slotM k e).view.write (Elt F) f ((rowM k).view.read (Elt F) (LB m (pr c e))) Finset.univ i = RB m c i := by
  have h : (rowM k).view.read (Elt F) (LB m (pr c e)) = (slotM k e).view.read (Elt F) (RB m c) := by
    funext j
    show LB m (pr c e) ((rowR k).emb (Shape.reshapeEquiv _ j)) = RB m c ((slotR k e).emb (Shape.reshapeEquiv _ j))
    obtain ⟨a, b, rfl⟩ : ∃ a b, j = ix2 (n0 := 4) (n1 := 512) a b := ⟨_, _, eq_ix2 j⟩
    refine (congrArg (fun x => LB m (pr c e) ((rowR k).emb x)) (reshapeEquiv_ix2_1ab _ a b)).trans
      (Eq.trans ?_ (congrArg (fun x => RB m c ((slotR k e).emb x)) (reshapeEquiv_ix2_11ab _ a b)).symm)
    exact (congrArg (LB m (pr c e)) (rowR_emb k a b)).trans (congrArg (RB m c) (slotR_emb k e a b)).symm
  rw [h, View.write_read_eq_piecewise, Finset.piecewise_eq_of_mem]
  rw [View.setOn_univ, slotM_set]; exact hi

/-! ## The semaphores -/

/-- The semaphores of the arrays of the sent and of the received copies, at a place of the array. -/
abbrev sendAt (o : Fin 2 → ℕ) (h : ∀ a, o a + S1x1.size a ≤ S8x3.size a) : DmaSem sig :=
  (((cc0_scratch4 : DmaSems sig S8x3).slice (Rect.unit (s := S8x3) o S1x1.size h) : DmaSems sig S1x1).squeeze S_ squeezes_S1x1_S_).sem
abbrev recvAt (o : Fin 2 → ℕ) (h : ∀ a, o a + S1x1.size a ≤ S8x3.size a) : DmaSem sig :=
  (((cc0_scratch5 : DmaSems sig S8x3).slice (Rect.unit (s := S8x3) o S1x1.size h) : DmaSems sig S1x1).squeeze S_ squeezes_S1x1_S_).sem

/-- The semaphore of the copy of row `k` to the device `e + 1` places on, and the one of the copy of row `k`
    from the device `e + 1` places on. -/
def sendS (k : Fin 8) (e : Fin 3) : DmaSem sig := ⟨7 + (3 * k.val + e.val), by revert k e; decide⟩
def recvS (k : Fin 8) (e : Fin 3) : DmaSem sig := ⟨31 + (3 * k.val + e.val), by revert k e; decide⟩

theorem sendAt_eq (k : Fin 8) (e : Fin 3) (h) : sendAt ![k.val, e.val] h = sendS k e := by
  revert k e; decide +kernel
theorem recvAt_eq (k : Fin 8) (e : Fin 3) (h) : recvAt ![k.val, e.val] h = recvS k e := by
  revert k e; decide +kernel

/-- The barrier semaphore of the program. -/
abbrev barS : Sem sig := (SemArray.scalar (sig.barrier 0 rfl) : Sems sig S_).sem

theorem sendS_inj {k k' : Fin 8} {e e' : Fin 3} (h : sendS k e = sendS k' e') : k = k' ∧ e = e' := by
  have := congrArg Fin.val h; simp only [sendS] at this
  exact ⟨Fin.ext (by omega), Fin.ext (by omega)⟩
theorem recvS_inj {k k' : Fin 8} {e e' : Fin 3} (h : recvS k e = recvS k' e') : k = k' ∧ e = e' := by
  have := congrArg Fin.val h; simp only [recvS] at this
  exact ⟨Fin.ext (by omega), Fin.ext (by omega)⟩
theorem sendS_ne_recvS (k k' : Fin 8) (e e' : Fin 3) : sendS k e ≠ recvS k' e' := fun h => by
  have := congrArg Fin.val h; simp only [sendS, recvS] at this; omega

end Cert.KernelIdeal.Stats
-- ==== Proof.KernelIdeal.Protocol.lean ====
/-
# The protocol of the semaphores

Each device first tells the three others that its slots may be written: it
signals their barrier semaphores and waits for three units on its own. Signal
`e` goes to the device `e + 1` places on, and hands over the signaller's slot
`e` of all eight rows.

Then, for each block `k`, it copies row `k` of its own statistics to the device
`e + 1` places on, `e = 0, 1, 2`, into slot `e.rev` of row `k` there. The copy
gives back the share of the row it read at the semaphore `sendS k e`, and hands
the receiver the slot, holding the sender's row, at its semaphore
`recvS k e.rev`. Each of these semaphores is used once.

This module states that as a schedule of rounds, with what each landing hands
over, and gives what each device owes and the order in which waits are allowed.
-/
module

public import proofs.«01_k».proof.Proof.KernelIdeal.Views
public import Idealize.ShloMosaic.Lib.Ring.Trips

@[expose] public section

noncomputable section

namespace Cert.KernelIdeal.Stats

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's own, and the rounds of this protocol -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barCell (c : Dev nD) : GSem nD τ sig := ((c : Thread nD τ), .reg barS)
abbrev sendCell (c : Dev nD) (k : Fin 8) (e : Fin 3) : GSem nD τ sig := ((c : Thread nD τ), .dma (sendS k e))
abbrev recvCell (c : Dev nD) (k : Fin 8) (e : Fin 3) : GSem nD τ sig := ((c : Thread nD τ), .dma (recvS k e))

/-- What a copy of one row counts for on a semaphore. -/
abbrev N : ℕ := (slotM 0 0).view.dmaCredit
theorem N_pos : 0 < N := View.dmaCredit_pos _ (by decide)

/-- The three parts of a row lent to its three copies. -/
abbrev third (e : Fin 3) : PosShare TreeShare := Ring.shares3 fullShare e

/-! ## What the landings hand over -/

/-- Row `k` of device `c`'s own statistics at contents `f`, at a share. -/
abbrev rowPts (c : Dev nD) (k : Fin 8) (q : PosShare TreeShare) (f : Buf (Elt F) ((c : Thread nD τ).loc cc0_scratch1)) : sProp 𝕄 :=
  ((c : Thread nD τ).loc cc0_scratch1) ↦[rowSet k]{q} f
/-- Slot `e` of row `k` of the statistics device `c` receives, at contents `f`. -/
abbrev slotPts (c : Dev nD) (k : Fin 8) (e : Fin 3) (f : Buf (Elt F) ((c : Thread nD τ).loc cc0_scratch2)) : sProp 𝕄 :=
  ((c : Thread nD τ).loc cc0_scratch2) ↦[slotSet k e]{fullShare} f

/-- Signal `e` to `c`'s barrier semaphore comes from the device `3 - e` places on, and hands over its slots `e`. -/
def barPay (c : Dev nD) (e : Fin 3) : sProp 𝕄 := bigSep Finset.univ fun k : Fin 8 => iprop(∃ f, slotPts (pr c e.rev) k e f)
def sendPay (c : Dev nD) (k : Fin 8) (e : Fin 3) : sProp 𝕄 := rowPts c k (third e) (LB m c)
def recvPay (c : Dev nD) (k : Fin 8) (e : Fin 3) : sProp 𝕄 := slotPts c k e (RB m c)

/-- The place of a semaphore in its array of eight rows of three. -/
def kOf (n : ℕ) : Fin 8 := ⟨n / 3 % 8, Nat.mod_lt _ (by decide)⟩
def eOf (n : ℕ) : Fin 3 := ⟨n % 3, Nat.mod_lt _ (by decide)⟩

/-- One round: a barrier semaphore takes its three signals of one unit, the semaphore of a copy that copy's credit. -/
def sched : Rounds.Schedule (GSem nD τ sig) (Fin 3) 𝕄 where
  duties g r := if r = 0 ∧ g.1.2 = .tc then
      (match g.2 with
        | .reg _ => Finset.univ
        | .dma q => if 7 ≤ q.val then {0} else ∅)
    else ∅
  unitless _ := False
  amount g _ _ := match g.2 with
    | .reg _ => 1
    | .dma _ => N
  payload g _ d := match g.2 with
    | .reg _ => barPay g.1.1 d
    | .dma q => if q.val < 31 then sendPay m g.1.1 (kOf (q.val - 7)) (eOf (q.val - 7)) else recvPay m g.1.1 (kOf (q.val - 31)) (eOf (q.val - 31))
  amount_pos g _ _ _ := by
    rcases g with ⟨t, s | q⟩
    · exact Nat.one_pos
    · exact N_pos

instance sched_payload_storable (g : GSem nD τ sig) (r : ℕ) (d : Fin 3) :
    BI.Storable (upEmb : UEmb _ 𝕄) ((sched (F := F) m).payload g r d) := by
  rcases g with ⟨t, s | q⟩
  · show BI.Storable upEmb (barPay t.1 d); unfold barPay; infer_instance
  · show BI.Storable upEmb (if q.val < 31 then sendPay m t.1 (kOf (q.val - 7)) (eOf (q.val - 7)) else recvPay m t.1 (kOf (q.val - 31)) (eOf (q.val - 31)))
    unfold sendPay recvPay
    split <;> infer_instance

theorem kOf_eq (k : Fin 8) (e : Fin 3) : kOf (3 * k.val + e.val) = k := by revert k e; decide
theorem eOf_eq (k : Fin 8) (e : Fin 3) : eOf (3 * k.val + e.val) = e := by revert k e; decide

section Table
variable (c : Dev nD) (k : Fin 8) (e : Fin 3)

theorem duties_bar : (sched (F := F) m).duties (barCell c) 0 = Finset.univ := by
  dsimp only [sched]; rw [if_pos ⟨rfl, rfl⟩]
theorem duties_send : (sched (F := F) m).duties (sendCell c k e) 0 = {0} := by
  dsimp only [sched]; rw [if_pos ⟨rfl, rfl⟩]
  exact if_pos (by simp only [sendS]; omega)
theorem duties_recv : (sched (F := F) m).duties (recvCell c k e) 0 = {0} := by
  dsimp only [sched]; rw [if_pos ⟨rfl, rfl⟩]
  exact if_pos (by simp only [recvS]; omega)
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barCell c) 0 d = 1 := rfl
theorem amount_send (d : Fin 3) : (sched (F := F) m).amount (sendCell c k e) 0 d = N := rfl
theorem amount_recv (d : Fin 3) : (sched (F := F) m).amount (recvCell c k e) 0 d = N := rfl

theorem expect_bar : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (sched (F := F) m).expect (sendCell c k e) 0 = N := by
  unfold Schedule.expect Schedule.amountOf; rw [duties_send, Finset.sum_singleton, amount_send]
theorem expect_recv : (sched (F := F) m).expect (recvCell c k e) 0 = N := by
  unfold Schedule.expect Schedule.amountOf; rw [duties_recv, Finset.sum_singleton, amount_recv]

theorem payload_bar (d : Fin 3) : (sched (F := F) m).payload (barCell c) 0 d = barPay c d := rfl
theorem payload_send (d : Fin 3) : (sched (F := F) m).payload (sendCell c k e) 0 d = sendPay m c k e := by
  dsimp only [sched]
  rw [if_pos (by have := k.isLt; have := e.isLt; simp only [sendS]; omega)]
  have h : (sendS k e).val - 7 = 3 * k.val + e.val := by simp only [sendS]; omega
  rw [h, kOf_eq, eOf_eq]
theorem payload_recv (d : Fin 3) : (sched (F := F) m).payload (recvCell c k e) 0 d = recvPay m c k e := by
  dsimp only [sched]
  rw [if_neg (by simp only [recvS]; omega)]
  have h : (recvS k e).val - 31 = 3 * k.val + e.val := by simp only [recvS]; omega
  rw [h, kOf_eq, eOf_eq]

theorem rest_bar : bigSep ((sched (F := F) m).duties (barCell c) 0 \ ∅) (fun d => (sched (F := F) m).payload (barCell c) 0 d)
    = bigSep Finset.univ fun d : Fin 3 => barPay c d := by
  rw [Finset.sdiff_empty, duties_bar]; rfl
theorem rest_send : bigSep ((sched (F := F) m).duties (sendCell c k e) 0 \ ∅) (fun d => (sched (F := F) m).payload (sendCell c k e) 0 d) = sendPay m c k e := by
  rw [Finset.sdiff_empty, duties_send, bigSep_singleton, payload_send]
theorem rest_recv : bigSep ((sched (F := F) m).duties (recvCell c k e) 0 \ ∅) (fun d => (sched (F := F) m).payload (recvCell c k e) 0 d) = recvPay m c k e := by
  rw [Finset.sdiff_empty, duties_recv, bigSep_singleton, payload_recv]

end Table

/-! ## What a device owes -/

/-- The credit of copy `e` of row `k`, on the receiver's semaphore. -/
abbrev owe (c : Dev nD) (k : Fin 8) (e : Fin 3) : CellTallies nD τ sig Unit := tallyAt (recvCell (pr c e) k e.rev) () N

/-- The copies of the rows from `t` on. -/
def owedFrom (c : Dev nD) (t : ℕ) : CellTallies nD τ sig Unit :=
  ∑ k ∈ Finset.univ.filter (fun k : Fin 8 => t ≤ k.val), (owe c k 2 + owe c k 1 + owe c k 0)

/-- At launch: all copies, and a unit to each other device's barrier semaphore. -/
def owedAll (c : Dev nD) : CellTallies nD τ sig Unit :=
  owedFrom c 0 + tallyAt (barCell (pr c 2)) () 1 + tallyAt (barCell (pr c 1)) () 1 + tallyAt (barCell (pr c 0)) () 1

theorem owedFrom_step (c : Dev nD) (k : Fin 8) :
    owedFrom c k.val = owedFrom c (k.val + 1) + owe c k 2 + owe c k 1 + owe c k 0 := by
  unfold owedFrom
  have h : Finset.univ.filter (fun k' : Fin 8 => k.val ≤ k'.val) = insert k (Finset.univ.filter fun k' : Fin 8 => k.val + 1 ≤ k'.val) := by
    ext k'
    simp only [Finset.mem_filter, Finset.mem_univ, true_and, Finset.mem_insert, Fin.ext_iff]; omega
  rw [h, Finset.sum_insert (by simp)]
  refine (add_comm _ _).trans ?_
  rw [← add_assoc, ← add_assoc]

theorem owedFrom_end (c : Dev nD) (t : ℕ) (h : 8 ≤ t) : owedFrom c t = 0 := by
  unfold owedFrom
  rw [Finset.filter_eq_empty_iff.mpr fun k _ => by have := k.isLt; omega, Finset.sum_empty]

/-! ## The order of the waits -/

def L (g : GSem nD τ sig) : Finset Unit := if g.1.2 = .tc then {()} else ∅
/-- Staging and sent copies below the barrier, the barrier below the received copies, these by row. -/
def lv (g : GSem nD τ sig) (_ : Unit) : ℕ := match g.2 with
  | .reg _ => 1
  | .dma q => if q.val < 31 then 0 else 2 + (q.val - 31) / 3

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_send (c : Dev nD) (k : Fin 8) (e : Fin 3) : lv (sendCell c k e) () = 0 := by
  show (if (sendS k e).val < 31 then 0 else _) = 0
  exact if_pos (by have := k.isLt; have := e.isLt; simp only [sendS]; omega)
theorem lv_recv (c : Dev nD) (k : Fin 8) (e : Fin 3) : lv (recvCell c k e) () = 2 + k.val := by
  show (if (recvS k e).val < 31 then 0 else 2 + ((recvS k e).val - 31) / 3) = _
  rw [if_neg (by simp only [recvS]; omega)]
  have := e.isLt; simp only [recvS]; omega

theorem tallyAt_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h; omega

theorem owedFrom_pos {c : Dev nD} {t : ℕ} {g : GSem nD τ sig} {u : Unit} (h : 0 < owedFrom c t g u) :
    ∃ (k : Fin 8) (e : Fin 3), t ≤ k.val ∧ g = recvCell (pr c e) k e.rev := by
  by_contra hn
  simp only [not_exists, not_and] at hn
  have hz : owedFrom c t g u = 0 := by
    unfold owedFrom
    rw [Finset.sum_apply, Finsupp.finset_sum_apply]
    refine Finset.sum_eq_zero fun k hk => ?_
    have ht := (Finset.mem_filter.mp hk).2
    by_contra hne
    rcases add_pos_cases (Nat.pos_of_ne_zero hne) with h' | h'
    · rcases add_pos_cases h' with h' | h'
      · exact hn k 2 ht (tallyAt_pos h')
      · exact hn k 1 ht (tallyAt_pos h')
    · exact hn k 0 ht (tallyAt_pos h')
  omega

theorem owedAll_pos {c : Dev nD} {g : GSem nD τ sig} {u : Unit} (h : 0 < owedAll c g u) :
    (∃ (k : Fin 8) (e : Fin 3), g = recvCell (pr c e) k e.rev) ∨ ∃ e : Fin 3, g = barCell (pr c e) := by
  unfold owedAll at h
  rcases add_pos_cases h with h | h
  · rcases add_pos_cases h with h | h
    · rcases add_pos_cases h with h | h
      · obtain ⟨k, e, -, h⟩ := owedFrom_pos h; exact .inl ⟨k, e, h⟩
      · exact .inr ⟨2, tallyAt_pos h⟩
    · exact .inr ⟨1, tallyAt_pos h⟩
  · exact .inr ⟨0, tallyAt_pos h⟩

/-- A wait is allowed when everything owed lies strictly above it. -/
theorem mayWait_of (c : Dev nD) (sm : SemLoc sig) (O : CellTallies nD τ sig Unit)
    (hO : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp])
    (fun g u hg => (hO g u hg).2)

theorem mayWait_from (c : Dev nD) (sm : SemLoc sig) (t : ℕ) (h : lv ((c : Thread nD τ), sm) () < 2 + t) :
    (levAts L lv : sProp 𝕄) ⊢ MayWait (c : Thread nD τ) sm () (owedFrom c t) :=
  mayWait_of c sm _ fun g u hg => by
    obtain ⟨k, e, hk, rfl⟩ := owedFrom_pos hg
    exact ⟨rfl, by rw [lv_recv]; omega⟩

theorem mayWait_all (c : Dev nD) (sm : SemLoc sig) (h : lv ((c : Thread nD τ), sm) () = 0) :
    (levAts L lv : sProp 𝕄) ⊢ MayWait (c : Thread nD τ) sm () (owedAll c) :=
  mayWait_of c sm _ fun g u hg => by
    rcases owedAll_pos hg with ⟨k, e, rfl⟩ | ⟨e, rfl⟩
    · exact ⟨rfl, by rw [lv_recv]; omega⟩
    · exact ⟨rfl, by rw [lv_bar]; omega⟩

end Cert.KernelIdeal.Stats
-- ==== Proof.KernelIdeal.State.lean ====
/-
# What a device holds between two steps, and the rules of the protocol's steps

A row of the statistics is fresh until the step that fills it and copies it to
the other devices, in flight for the three steps that follow, and done after
the step that waits for its copies: all of its copies sent have given their
share back, and the three rows of the other devices have landed in its slots.
-/
module

public import proofs.«01_k».proof.Proof.KernelIdeal.Protocol

@[expose] public section

noncomputable section

namespace Cert.KernelIdeal.Stats

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells' records -/

/-- A device's cells: its barrier semaphore, and those of the copies it sends (`false`) and receives (`true`). -/
abbrev KK : Type := Option (Bool × Fin 8 × Fin 3)
def cellAt (c : Dev nD) : KK → GSem nD τ sig
  | none => barCell c
  | some (false, k, e) => sendCell c k e
  | some (true, k, e) => recvCell c k e

/-- Every cell of every device is governed by the schedule and is at round 0 at least. -/
def records (K : Dev nD × KK → ℕ) : sProp 𝕄 :=
  bigSep Finset.univ fun p : Dev nD × KK => iprop(cellInv ER (sched m) (K p) (cellAt p.1 p.2) ∗ reached ER (cellAt p.1 p.2) 0)

instance records_persistent (K : Dev nD × KK → ℕ) : BI.Persistent (records m K) := by unfold records; infer_instance

theorem rec_at (K : Dev nD × KK → ℕ) (c : Dev nD) (x : KK) :
    records m K ⊢ iprop(cellInv ER (sched m) (K (c, x)) (cellAt c x) ∗ reached ER (cellAt c x) 0) :=
  bigSep_elim (Finset.mem_univ (c, x))
theorem inv_at (K : Dev nD × KK → ℕ) (c : Dev nD) (x : KK) : records m K ⊢ cellInv ER (sched m) (K (c, x)) (cellAt c x) :=
  (rec_at m K c x).trans (by iintro ⟨H, -⟩; iexact H)
theorem reached_at (K : Dev nD × KK → ℕ) (c : Dev nD) (x : KK) : records m K ⊢ reached ER (cellAt c x) 0 :=
  (rec_at m K c x).trans (by iintro ⟨-, H⟩; iexact H)

/-! ## What a device holds -/

/-- For copy `e` of row `k`, before it is sent: the tokens of both its landings, the positions of the two waits, and the
    credit of the copy that comes in at the same index. -/
def lane (c : Dev nD) (k : Fin 8) (e : Fin 3) : sProp 𝕄 :=
  iprop(dutyTok ER (sendCell c k e) 0 0 ∗ dutyTok ER (recvCell (pr c e) k e.rev) 0 0
    ∗ atPos ER (sendCell c k e) 0 ∅ 0 ∗ atPos ER (recvCell c k e) 0 ∅ 0 ∗ cred (tallyAt (recvCell c k e) () N))
/-- The slot of the other device that copy `e` of row `k` is to fill. -/
def dstSlot (c : Dev nD) (k : Fin 8) (e : Fin 3) : sProp 𝕄 := iprop(∃ f, slotPts (pr c e) k e.rev f)
/-- After it is sent: both credits and both positions. -/
def flight (c : Dev nD) (k : Fin 8) (e : Fin 3) : sProp 𝕄 :=
  iprop(cred (tallyAt (sendCell c k e) () N) ∗ atPos ER (sendCell c k e) 0 ∅ 0 ∗ atPos ER (recvCell c k e) 0 ∅ 0
    ∗ cred (tallyAt (recvCell c k e) () N))
/-- After both waits: the slot filled, both semaphores at zero. -/
def landed (c : Dev nD) (k : Fin 8) (e : Fin 3) : sProp 𝕄 :=
  iprop(slotPts c k e (RB m c) ∗ semVal (sendCell c k e) 0 ∗ semVal (recvCell c k e) 0)

def base (c : Dev nD) (k : Fin 8) : sProp 𝕄 := iprop((∃ f, rowPts c k fullShare f) ∗ bigSep Finset.univ fun e : Fin 3 => lane c k e)
def fresh (c : Dev nD) (k : Fin 8) : sProp 𝕄 := iprop(base c k ∗ bigSep Finset.univ fun e : Fin 3 => dstSlot c k e)
def inFlight (c : Dev nD) (k : Fin 8) : sProp 𝕄 := bigSep Finset.univ fun e : Fin 3 => flight c k e
def done (c : Dev nD) (k : Fin 8) : sProp 𝕄 := iprop(rowPts c k fullShare (LB m c) ∗ bigSep Finset.univ fun e : Fin 3 => landed m c k e)

/-- Row `k` before step `t`. -/
def rowSt (c : Dev nD) (t : ℕ) (k : Fin 8) : sProp 𝕄 :=
  if t ≤ k.val then fresh c k else if t ≤ k.val + 3 then inFlight c k else done m c k

theorem rowSt_fresh (c : Dev nD) (t : ℕ) (k : Fin 8) (h : t ≤ k.val) : rowSt m c t k = fresh c k := if_pos h
theorem rowSt_flight (c : Dev nD) (t : ℕ) (k : Fin 8) (h : k.val < t) (h' : t ≤ k.val + 3) : rowSt m c t k = inFlight c k :=
  (if_neg (by omega)).trans (if_pos h')
theorem rowSt_done (c : Dev nD) (t : ℕ) (k : Fin 8) (h : k.val + 3 < t) : rowSt m c t k = done m c k :=
  (if_neg (by omega)).trans (if_neg (by omega))
theorem rowSt_same (c : Dev nD) (t : ℕ) (k : Fin 8) (h : k.val ≠ t) (h' : k.val + 3 ≠ t) : rowSt m c (t + 1) k = rowSt m c t k := by
  unfold rowSt
  by_cases h1 : t ≤ k.val
  · rw [if_pos h1, if_pos (by omega)]
  · rw [if_neg h1, if_neg (by omega)]
    by_cases h2 : t ≤ k.val + 3
    · rw [if_pos h2, if_pos (by omega)]
    · rw [if_neg h2, if_neg (by omega)]

/-! ## The saved blocks and the modulation -/

theorem save_inb (k : Fin 8) : ∀ a, (![k.val % 4, 0, 0, 0] : Fin 4 → ℕ) a + S1x2x512x512.size a ≤ S4x2x512x512.size a := by
  revert k; decide
abbrev saveR (k : Fin 8) : Rect S4x2x512x512 := Rect.unit (s := S4x2x512x512) ![k.val % 4, 0, 0, 0] S1x2x512x512.size (save_inb k)
abbrev modR0 : Rect S2x2x512 := Rect.unit (s := S2x2x512) ![0, 0, 0] S1x2x512.size inb_S2x2x512_S1x2x512_0_0_0
abbrev modR1 : Rect S2x2x512 := Rect.unit (s := S2x2x512) ![1, 0, 0] S1x2x512.size inb_S2x2x512_S1x2x512_1_0_0

/-- The blocks from `lo` up to (not including) `hi`, saved where the kernel keeps them. -/
def Saved (c : Dev nD) (lo hi : ℕ) (f : S4x2x512x512.Idx → Elt F .f32) : Prop :=
  ∀ k : Fin 8, lo ≤ k.val → k.val < hi → (sM : Memref sig .tc .vmem S4x2x512x512 .f32).view.readAt (Elt F) (saveR k).toLoadRect f = k0_pay5 (X m c k)

abbrev point0 : Fin cfg0.N := tt 0
def modScale (c : Dev nD) : FVec F S1x2x512 .f32 := k0_pay1 (iblk m c 1 point0) (iblk m c 2 point0)
def modShift (c : Dev nD) : FVec F S1x2x512 .f32 := k0_pay2 (iblk m c 1 point0) (iblk m c 3 point0)

def ModIs (c : Dev nD) (f : S2x2x512.Idx → Elt F .f32) : Prop :=
  (gM : Memref sig .tc .vmem S2x2x512 .f32).view.readAt (Elt F) modR0.toLoadRect f = modScale m c
    ∧ (gM : Memref sig .tc .vmem S2x2x512 .f32).view.readAt (Elt F) modR1.toLoadRect f = modShift m c

def savedPts (c : Dev nD) (lo hi : ℕ) : sProp 𝕄 := iprop(∃ f : Buf (Elt F) ((c : Thread nD τ).loc cc0_scratch0), ⌜Saved m c lo hi f⌝ ∗ (((c : Thread nD τ).loc cc0_scratch0) ↦{fullShare} f))
def modPts (c : Dev nD) : sProp 𝕄 := iprop(∃ f : Buf (Elt F) ((c : Thread nD τ).loc cc0_scratch3), ⌜ModIs m c f⌝ ∗ (((c : Thread nD τ).loc cc0_scratch3) ↦{fullShare} f))

theorem saved_mono {c : Dev nD} {lo hi lo' hi' : ℕ} (h : ∀ k : Fin 8, lo' ≤ k.val → k.val < hi' → lo ≤ k.val ∧ k.val < hi) :
    savedPts m c lo hi ⊢ savedPts m c lo' hi' := by
  unfold savedPts
  iintro ⟨%f, %hf, H⟩
  iexists f
  isplitr
  · ipureintro; exact fun k h1 h2 => hf k (h k h1 h2).1 (h k h1 h2).2
  · iexact H

/-! ## Loads and stores of whole staging buffers -/

section Rules
variable (c : Dev nD)

theorem read_stage {sp : Space} {s : Shape} {e : EltTy} (M : Memref sig .tc sp s e) (hM : M.IsWhole) {off : Fin s.rank → ℕ} (h0 : off = fun _ => 0)
    (inb : ∀ a, off a + s.size a ≤ s.size a) (f : M.view.ty.Contents (Elt F)) :
    M.view.readAt (Elt F) (Rect.unit off s.size inb).toLoadRect f = M.view.read (Elt F) f := by
  obtain ⟨b, rfl, rfl, rfl, h⟩ := hM
  cases h
  exact (Memref.readAt_unit_zero (Elt F) b h0 inb f).trans (View.read_whole _ _).symm

theorem write_stage {sp : Space} {s : Shape} {e : EltTy} (M : Memref sig .tc sp s e) (hM : M.IsWhole) {off : Fin s.rank → ℕ} (h0 : off = fun _ => 0)
    (inb : ∀ a, off a + s.size a ≤ s.size a) (f : M.view.ty.Contents (Elt F)) (w : s.Idx → Elt F e) :
    M.view.read (Elt F) ((M.access (Rect.unit off s.size inb)).write (Elt F) f w Finset.univ) = w := by
  obtain ⟨b, rfl, rfl, rfl, h⟩ := hM
  cases h
  exact (congrArg _ (Memref.write_access_unit_zero_univ (Elt F) b h0 inb f w)).trans (View.read_whole _ _)

theorem wp_load_stage {s : Shape} {e : EltTy} (M : Memref sig .tc .vmem s e) (hM : M.IsWhole) {off : Fin s.rank → ℕ} (h0 : off = fun _ => 0)
    (inb : ∀ a, off a + s.size a ≤ s.size a) {hl : M.view.LoadsAt (Rect.unit off s.size inb).toLoadRect} (Xv : s.Idx → Elt F e)
    {α : Type} {Q : α → sProp 𝕄} {k : (s.Idx → Elt F e) → Prog (TpuEff nD τ sig (Elt F) Λ₀ .tc) α} :
    (owns (c : Thread nD τ) M fullShare Xv : sProp 𝕄)
      ⊢ iprop((owns (c : Thread nD τ) M fullShare Xv -∗ wp frame (wpE (defs₀ (F := F)) 𝒱₀ (c : Thread nD τ) none) Set.univ (k Xv) Q)
          -∗ wp frame (wpE (defs₀ (F := F)) 𝒱₀ (c : Thread nD τ) none) Set.univ (.op (.load M (Rect.unit off s.size inb).toLoadRect hl) k) Q) := by
  unfold owns
  iintro ⟨%f, %hf, H⟩ Hk
  iapply (wp_load 𝒱₀ (c : Thread nD τ) none Set.univ (m := M) (by rw [hM.set_eq_univ]; exact Finset.subset_univ _)) $$ H
  iintro H
  rw [read_stage M hM h0 inb f, hf]
  iapply Hk
  iexists f
  isplitr
  · ipureintro; exact hf
  · iexact H

theorem wp_store_stage {s : Shape} {e : EltTy} (M : Memref sig .tc .vmem s e) (hM : M.IsWhole) {off : Fin s.rank → ℕ} (h0 : off = fun _ => 0)
    (inb : ∀ a, off a + s.size a ≤ s.size a) (Xv w : s.Idx → Elt F e) {hx : (M.access (Rect.unit off s.size inb)).Stores Finset.univ} {hm}
    {α : Type} {Q : α → sProp 𝕄} {k : PUnit → Prog (TpuEff nD τ sig (Elt F) Λ₀ .tc) α} :
    (owns (c : Thread nD τ) M fullShare Xv : sProp 𝕄)
      ⊢ iprop((owns (c : Thread nD τ) M fullShare w -∗ wp frame (wpE (defs₀ (F := F)) 𝒱₀ (c : Thread nD τ) none) Set.univ (k ⟨⟩) Q)
          -∗ wp frame (wpE (defs₀ (F := F)) 𝒱₀ (c : Thread nD τ) none) Set.univ (.op (.store M (Rect.unit off s.size inb) w Finset.univ hx hm) k) Q) := by
  unfold owns
  iintro ⟨%f, %hf, H⟩ Hk
  iapply (wp_store 𝒱₀ (c : Thread nD τ) none Set.univ (m := M) (r := Rect.unit off s.size inb) (Mk := Finset.univ)
    (by rw [hM.set_eq_univ]; exact Finset.subset_univ _)) $$ H
  iintro H
  iapply Hk
  iexists _
  isplitr
  · ipureintro; exact write_stage M hM h0 inb f w
  · iexact H

/-! ## The protocol's steps -/

variable (K : Dev nD × KK → ℕ)

/-- Signal `e`: the slots `e` of all rows go to the device `e + 1` places on. -/
theorem wp_signal_bar (e : Fin 3) {n : Dev nD} (hn : n = pr c e) (O : CellTallies nD τ sig Unit) (W : Waits sig Unit)
    {α : Type} {Q : α → sProp 𝕄} {k : PUnit → Prog (TpuEff nD τ sig (Elt F) Λ₀ .tc) α} :
    iprop(records m K ∗ owes (c : Thread nD τ) (O + tallyAt (barCell (pr c e)) () 1) W ∗ dutyTok ER (barCell (pr c e)) 0 e
        ∗ bigSep Finset.univ (fun k : Fin 8 => iprop(∃ f, slotPts c k e f)))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ ((semSignalWord n barS 1#32).bind k) Q) := by
  subst hn
  simp only [semSignalWord, Prog.lift, Prog.bind_op, Prog.bind_ret]
  iintro ⟨#HR, HO, Ht, Hp⟩
  iapply (Rounds.wp_signal 𝒱₀ ER (sched m) (c : Thread nD τ) none (dst := (pr c e : Thread nD τ)) (κ := K (pr c e, none))
      (d := e) (by rw [duties_bar]; exact Finset.mem_univ _) ((amount_bar m (pr c e) e).trans (by decide)) () O rfl) $$ [HO Ht Hp]
  isplitr; · iapply (inv_at m K (pr c e) none); iexact HR
  isplitl [HO]; · iexact HO
  isplitl [Ht]; · iexact Ht
  isplitl [Hp]
  · rw [payload_bar]; unfold barPay; rw [pr_rev]; iexact Hp
  iapply (reached_at m K (pr c e) none); iexact HR

theorem slotM_amount (k : Fin 8) (e : Fin 3) (q : DmaSem sig) : (slotM k e).view.amount (.dma q) = N := rfl

set_option maxHeartbeats 1000000 in
/-- Copy `e` of row `k`. -/
theorem wp_send_row (k : Fin 8) (e : Fin 3) {n : Dev nD} (hn : n = pr c e) {src dst : Memref sig .tc .vmem S4x512 .f32}
    (hs : src = rowM k) (hd : dst = slotM k e.rev) {sS sR : DmaSem sig} (hS : sS = sendS k e) (hR : sR = recvS k e.rev)
    {hsc : (dst : Memref sig (Dev.tc n : Thread nD τ).2.kind .vmem S4x512 .f32).view.ref.isScScratch = false}
    {hsrc : src.view.WordExact} {hdst : dst.view.WordExact}
    {hsem : DmaTarget.Typed .vmem (.dma sR) (.remote (Dev.tc n : Thread nD τ) dst (.dma sS) hsc)}
    (O : CellTallies nD τ sig Unit) (W : Waits sig Unit)
    {α : Type} {Q : α → sProp 𝕄} {kt : PUnit → Prog (TpuEff nD τ sig (Elt F) Λ₀ .tc) α} :
    iprop(records m K ∗ rowPts c k (third e) (LB m c) ∗ dstSlot c k e ∗ owes (c : Thread nD τ) (O + owe c k e) W ∗ lane c k e)
      ⊢ iprop(((flight c k e ∗ owes (c : Thread nD τ) O W) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) kt) Q) := by
  subst hn hs hd hS hR
  unfold dstSlot lane
  iintro ⟨#HR, Hrow, ⟨%fd, Hslot⟩, HO, HtS, HtR, HaS, HaR, HcR⟩ Hk
  iapply (Rounds.wp_send_pointsTo 𝒱₀ ER (sched m) (c : Thread nD τ) none (κ₁ := K (c, some (false, k, e))) (κ₂ := K (pr c e, some (true, k, e.rev)))
    (q := third e) (fs := LB m c) (r₁ := 0) (r₂ := 0) (d₁ := 0) (d₂ := 0) (fd := fd)
    (by rw [duties_send]; exact Finset.mem_singleton_self _) (by rw [duties_recv]; exact Finset.mem_singleton_self _)
    () () N (slotM_amount k e.rev _) (amount_send m c k e 0) (amount_recv m (pr c e) k e.rev 0) O rfl (W := W)
    (by rw [payload_send, rowM_set]; exact BI.Entails.refl _)
    (by
      rw [payload_recv, slotM_set]
      unfold recvPay
      refine Entails.of_eq (pointsTo_congr fun i hi => ?_)
      have h := land_slot m (pr c e) k e.rev fd i hi
      rw [pr_rev] at h
      exact h)) $$ [Hrow Hslot HO HtS HtR]
  · isplitr; · iapply (inv_at m K c (some (false, k, e))); iexact HR
    isplitr; · iapply (inv_at m K (pr c e) (some (true, k, e.rev))); iexact HR
    isplitl [Hrow]; · rw [rowM_set]; iexact Hrow
    isplitl [Hslot]; · rw [slotM_set]; iexact Hslot
    isplitl [HO]; · iexact HO
    isplitl [HtS]; · iexact HtS
    isplitr; · iapply (reached_at m K c (some (false, k, e))); iexact HR
    isplitl [HtR]; · iexact HtR
    iapply (reached_at m K (pr c e) (some (true, k, e.rev))); iexact HR
  iintro ⟨HcS, HO⟩
  iapply Hk
  isplitr [HO]
  · unfold flight
    isplitl [HcS]; · iexact HcS
    isplitl [HaS]; · iexact HaS
    isplitl [HaR]; · iexact HaR
    iexact HcR
  · iexact HO

/-- The wait for the copy that comes in at `(k, e)`: the slot filled, its semaphore at zero. -/
theorem wp_wait_recv (k : Fin 8) (e : Fin 3) {src dst : Memref sig .tc .vmem S4x512 .f32} (hd : dst = slotM k e) {sR : DmaSem sig} (hR : sR = recvS k e)
    {hsrc : src.view.WordExact} {hdst : dst.view.WordExact} (t : ℕ) (ht : k.val < t) (W : Waits sig Unit)
    {α : Type} {Q : α → sProp 𝕄} {kt : PUnit → Prog (TpuEff nD τ sig (Elt F) Λ₀ .tc) α} :
    iprop(records m K ∗ levAts L lv ∗ cred (tallyAt (recvCell c k e) () N) ∗ owes (c : Thread nD τ) (owedFrom c t) W ∗ atPos ER (recvCell c k e) 0 ∅ 0)
      ⊢ iprop(((slotPts c k e (RB m c) ∗ semVal (recvCell c k e) 0 ∗ owes (c : Thread nD τ) (owedFrom c t) (insert (SemLoc.dma (recvS k e), ()) W))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sR src dst hsrc hdst) kt) Q) := by
  subst hd hR
  iintro ⟨#HR, #Hlev, Hc, HO, Hat⟩ Hk
  iapply (Rounds.wp_wait_rest_token 𝒱₀ ER (sched m) (c : Thread nD τ) none (κ := K (c, some (true, k, e)))
      (wpE_waitDma2_eq 𝒱₀ (c : Thread nD τ) none Set.univ) (Set.mem_univ _) () (O := owedFrom c t) (W := W) (R := 0) (m := 0) (T := ∅)
      (by rw [Nat.zero_add, expect_recv])) $$ [Hc HO Hat]
  · isplitr; · iapply (inv_at m K c (some (true, k, e))); iexact HR
    isplitl [Hc]; · iexact Hc
    isplitl [HO]; · iexact HO
    isplitr; · iapply (mayWait_from c (.dma (recvS k e)) t (by rw [lv_recv]; omega)); iexact Hlev
    iexact Hat
  iintro ⟨HO, Hat, -, Hpay⟩
  ihave Hp := (Entails.of_eq (rest_recv m c k e)) $$ Hpay
  imod (Rounds.cell_close ER (sched m) (Set.mem_univ (K (c, some (true, k, e)))) (fun h => h) (R := 0 + 1) (duties_later m (recvCell c k e))) $$ [Hat] with Hz
  · isplitr; · iapply (inv_at m K c (some (true, k, e))); iexact HR
    iexact Hat
  iapply Hk
  isplitl [Hp]; · unfold recvPay; iexact Hp
  isplitl [Hz]; · iexact Hz
  iexact HO

/-- The wait for copy `(k, e)` to have been read: its share of the row back, its semaphore at zero. -/
theorem wp_wait_send (k : Fin 8) (e : Fin 3) {src dst : Memref sig .tc .vmem S4x512 .f32} (hd : dst = rowM k) {sS : DmaSem sig} (hS : sS = sendS k e)
    {hsrc : src.view.WordExact} {hdst : dst.view.WordExact} (t : ℕ) (W : Waits sig Unit)
    {α : Type} {Q : α → sProp 𝕄} {kt : PUnit → Prog (TpuEff nD τ sig (Elt F) Λ₀ .tc) α} :
    iprop(records m K ∗ levAts L lv ∗ cred (tallyAt (sendCell c k e) () N) ∗ owes (c : Thread nD τ) (owedFrom c t) W ∗ atPos ER (sendCell c k e) 0 ∅ 0)
      ⊢ iprop(((rowPts c k (third e) (LB m c) ∗ semVal (sendCell c k e) 0 ∗ owes (c : Thread nD τ) (owedFrom c t) (insert (SemLoc.dma (sendS k e), ()) W))
            -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 sS src dst hsrc hdst) kt) Q) := by
  subst hd hS
  iintro ⟨#HR, #Hlev, Hc, HO, Hat⟩ Hk
  iapply (Rounds.wp_wait_rest_token 𝒱₀ ER (sched m) (c : Thread nD τ) none (κ := K (c, some (false, k, e)))
      (wpE_waitDma2_eq 𝒱₀ (c : Thread nD τ) none Set.univ) (Set.mem_univ _) () (O := owedFrom c t) (W := W) (R := 0) (m := 0) (T := ∅)
      (by rw [Nat.zero_add, expect_send])) $$ [Hc HO Hat]
  · isplitr; · iapply (inv_at m K c (some (false, k, e))); iexact HR
    isplitl [Hc]; · iexact Hc
    isplitl [HO]; · iexact HO
    isplitr; · iapply (mayWait_from c (.dma (sendS k e)) t (by rw [lv_send]; omega)); iexact Hlev
    iexact Hat
  iintro ⟨HO, Hat, -, Hpay⟩
  ihave Hp := (Entails.of_eq (rest_send m c k e)) $$ Hpay
  imod (Rounds.cell_close ER (sched m) (Set.mem_univ (K (c, some (false, k, e)))) (fun h => h) (R := 0 + 1) (duties_later m (sendCell c k e))) $$ [Hat] with Hz
  · isplitr; · iapply (inv_at m K c (some (false, k, e))); iexact HR
    iexact Hat
  iapply Hk
  isplitl [Hp]; · unfold sendPay; iexact Hp
  isplitl [Hz]; · iexact Hz
  iexact HO

/-- The wait on the barrier: the slots of the other devices that this one's copies fill. -/
theorem wp_wait_bar (W : Waits sig Unit) {α : Type} {Q : α → sProp 𝕄} {kt : PUnit → Prog (TpuEff nD τ sig (Elt F) Λ₀ .tc) α} :
    iprop(records m K ∗ levAts L lv ∗ cred (tallyAt (barCell c) () 3) ∗ owes (c : Thread nD τ) (owedFrom c 0) W ∗ atPos ER (barCell c) 0 ∅ 0)
      ⊢ iprop(((bigSep Finset.univ (fun d : Fin 3 => barPay c d) ∗ semVal (barCell c) 0 ∗ owes (c : Thread nD τ) (owedFrom c 0) (insert (SemLoc.reg barS, ()) W))
            -∗ wp frame (wpE (defs₀ (F := F)) 𝒱₀ (c : Thread nD τ) none) Set.univ (kt ⟨⟩) Q)
          -∗ wp frame (wpE (defs₀ (F := F)) 𝒱₀ (c : Thread nD τ) none) Set.univ ((semWaitWord barS 3#32).bind kt) Q) := by
  simp only [semWaitWord, Prog.lift, Prog.bind_op, Prog.bind_ret]
  iintro ⟨#HR, #Hlev, Hc, HO, Hat⟩ Hk
  iapply (Rounds.wp_wait_rest_token 𝒱₀ ER (sched m) (c : Thread nD τ) none (κ := K (c, none))
      (wpE_semWait_eq 𝒱₀ (c : Thread nD τ) none Set.univ) (Set.mem_univ _) () (O := owedFrom c 0) (W := W) (R := 0) (m := 0) (T := ∅)
      (by rw [expect_bar]; decide)) $$ [Hc HO Hat]
  · isplitr; · iapply (inv_at m K c none); iexact HR
    isplitl [Hc]; · iexact Hc
    isplitl [HO]; · iexact HO
    isplitr; · iapply (mayWait_from c (.reg barS) 0 (by rw [lv_bar]; decide)); iexact Hlev
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (barCell c))) $$ [Hat] with Hz
  · isplitr; · iapply (inv_at m K c none); iexact HR
    iexact Hat
  iapply Hk
  isplitl [Hp]; · iexact Hp
  isplitl [Hz]; · iexact Hz
  iexact HO

end Rules

end Cert.KernelIdeal.Stats
-- ==== Proof.KernelIdeal.Blocks.lean ====
/-
# The kernel's body as a sequence of six blocks

Each step of the kernel runs some of six blocks: the signals, the modulation,
the statistics of the step's block, the wait on the barrier, the three copies,
and the waits and the output of the block three steps before. This module names
the blocks and shows that the body is their sequence.
-/
module

public import proofs.«01_k».proof.Proof.KernelIdeal.State

@[expose] public section

noncomputable section

namespace Cert.KernelIdeal.Stats

open Cert.KernelIdeal Cert.KernelIdeal.Gen
open Idealize.ShloMosaic Idealize.ShloMosaic.TcCoe Idealize.ShloMosaic.ValueIdx
open Idealize.SL.Sem

variable {F : FTy → Type} [FloatOps F]

abbrev Code (F : FTy → Type) [FloatOps F] : Type 1 := Prog (TpuEff nD τ sig (Elt F) Λ₀ .tc) PUnit

section Blocks

variable (i : grid0.Coords)
  (a1 : Memref sig .tc .vmem S2x512x512 .f32) (h1 : a1.IsWhole) (a2 : Memref sig .tc .vmem S2x128 .f32) (h2 : a2.IsWhole)
  (a3 : Memref sig .tc .vmem S128x512 .f32) (h3 : a3.IsWhole) (a4 : Memref sig .tc .vmem S128x512 .f32) (h4 : a4.IsWhole)
  (a5 : Memref sig .tc .vmem S2x512x512 .f32) (h5 : a5.IsWhole)

/-- The device's number as the kernel computes with it. -/
abbrev here (c : Dev nD) : BitVec 32 := Scalar.remsi (Scalar.divsi (Dev.word c) 1#32) 4#32
/-- Whether this is the first step, as the kernel asks it. -/
abbrev isFirst : BitVec 1 := Scalar.cmpi .ne (Scalar.extui (Scalar.cmpi .eq (BitVec.ofNat 32 (i 0).val) 0#32) : BitVec 32) 0#32

def sigB (c : Dev nD) (h : k0_cond1 i = 1#1) : Code F := do
  let _ ← k0_part1 (F := F) i a1 h1 a2 h2 a3 h3 a4 h4 a5 h5 sM (Memref.isWhole_whole _) lM (Memref.isWhole_whole _) rM (Memref.isWhole_whole _)
    gM (Memref.isWhole_whole _) cc0_scratch4 cc0_scratch5 c (here c) (SemArray.scalar (sig.barrier 0 rfl)) h
  semSignalWord (⟨k0_dev3 c, k0_dev3_lt i c h⟩ : Dev nD) barS 1#32

def modB : Code F := do
  let t ← Prog.lift (.load a2 (Rect.unit (s := S2x128) ![0, 0] S2x128.size inb_S2x128_S2x128_0_0).toLoadRect (View.loadsAt_vmem h_S2x128))
  let ws ← Prog.lift (.load a3 (Rect.unit (s := S128x512) ![0, 0] S128x512.size inb_S128x512_S128x512_0_0).toLoadRect (View.loadsAt_vmem h_S128x512))
  let _ ← Prog.lift (.load gM modR0.toLoadRect (View.loadsAt_vmem h_S1x2x512))
  Prog.lift (.store gM modR0 (k0_pay1 t ws) Finset.univ (View.stores_vmem_bits_univ h_S1x2x512 rfl) (.inl rfl))
  let t ← Prog.lift (.load a2 (Rect.unit (s := S2x128) ![0, 0] S2x128.size inb_S2x128_S2x128_0_0).toLoadRect (View.loadsAt_vmem h_S2x128))
  let ws ← Prog.lift (.load a4 (Rect.unit (s := S128x512) ![0, 0] S128x512.size inb_S128x512_S128x512_0_0).toLoadRect (View.loadsAt_vmem h_S128x512))
  let _ ← Prog.lift (.load gM modR1.toLoadRect (View.loadsAt_vmem h_S1x2x512))
  Prog.lift (.store gM modR1 (k0_pay2 t ws) Finset.univ (View.stores_vmem_bits_univ h_S1x2x512 rfl) (.inl rfl))

def statB (o1 : Fin 3 → ℕ) (b1 : ∀ a, o1 a + S1x4x512.size a ≤ S8x4x512.size a) (o2 : Fin 4 → ℕ)
    (b2 : ∀ a, o2 a + S1x2x512x512.size a ≤ S4x2x512x512.size a) : Code F := do
  let x ← Prog.lift (.load a1 (Rect.unit (s := S2x512x512) ![0, 0, 0] S2x512x512.size inb_S2x512x512_S2x512x512_0_0_0).toLoadRect (View.loadsAt_vmem h_S2x512x512))
  let _ ← Prog.lift (.load lM (Rect.unit (s := S8x4x512) o1 S1x4x512.size b1).toLoadRect (View.loadsAt_vmem h_S1x4x512))
  Prog.lift (.store lM (Rect.unit (s := S8x4x512) o1 S1x4x512.size b1) (k0_pay4 x) Finset.univ (View.stores_vmem_bits_univ h_S1x4x512 rfl) (.inl rfl))
  let _ ← Prog.lift (.load sM (Rect.unit (s := S4x2x512x512) o2 S1x2x512x512.size b2).toLoadRect (View.loadsAt_vmem h_S1x2x512x512))
  Prog.lift (.store sM (Rect.unit (s := S4x2x512x512) o2 S1x2x512x512.size b2) (k0_pay5 x) Finset.univ (View.stores_vmem_bits_univ h_S1x2x512x512 rfl) (.inl rfl))

/-- One copy: row at offset `o`, slot at offset `o'`, to device `n`. -/
abbrev copyTo (n : Dev nD) (o : Fin 3 → ℕ) (b : ∀ a, o a + S1x4x512.size a ≤ S8x4x512.size a) (o' : Fin 4 → ℕ)
    (b' : ∀ a, o' a + S1x1x4x512.size a ≤ S8x3x4x512.size a) (sS sR : DmaSem sig) : Code F :=
  Prog.lift (.enqueueDma ((lM.slice (Rect.unit (s := S8x4x512) o S1x4x512.size b) (fun _ => rfl)).squeeze S4x512 squeezes_S1x4x512_S4x512)
    (.remote (Dev.tc n) ((rM.slice (Rect.unit (s := S8x3x4x512) o' S1x1x4x512.size b') (fun _ => rfl)).squeeze S4x512 squeezes_S1x1x4x512_S4x512) (.dma sS))
    (.dma sR) ((View.wordExact_bits rfl).reshape _ _) ((View.wordExact_bits rfl).reshape _ _) ⟨⟨rfl, Or.inl rfl⟩, trivial⟩)

def sendB (c : Dev nD) (h : k0_cond5 i = 1#1) : Code F := do
  let _ ← k0_part2 (F := F) i a1 h1 a2 h2 a3 h3 a4 h4 a5 h5 sM (Memref.isWhole_whole _) lM (Memref.isWhole_whole _) rM (Memref.isWhole_whole _)
    gM (Memref.isWhole_whole _) cc0_scratch4 cc0_scratch5 c (here c) h
  copyTo ⟨k0_dev5 c, k0_dev5_lt i c h⟩ (k0_off6 i) (k0_off6_inb i h) (k0_off8 i) (k0_off8_inb i h)
    (sendAt (k0_off7 i) (k0_off7_inb i h)) (recvAt (k0_off7 i) (k0_off7_inb i h))
  copyTo ⟨k0_dev6 c, k0_dev6_lt i c h⟩ (k0_off6 i) (k0_off6_inb i h) (k0_off9 i) (k0_off9_inb i h)
    (sendAt (k0_off4 i) (k0_off4_inb i h)) (recvAt (k0_off3 i) (k0_off3_inb i h))

def outB (c : Dev nD) (h : k0_cond6 i = 1#1) : Code F := do
  let w ← k0_part3 (F := F) i a1 h1 a2 h2 a3 h3 a4 h4 a5 h5 sM (Memref.isWhole_whole _) lM (Memref.isWhole_whole _) rM (Memref.isWhole_whole _)
    gM (Memref.isWhole_whole _) cc0_scratch4 cc0_scratch5 (BitVec.ofNat 32 (i 0).val) (here c) h
  let s ← k0_part4 (F := F) i a1 h1 a2 h2 a3 h3 a4 h4 a5 h5 sM (Memref.isWhole_whole _) lM (Memref.isWhole_whole _) rM (Memref.isWhole_whole _)
    gM (Memref.isWhole_whole _) cc0_scratch4 cc0_scratch5 (here c) h w
  let r2 ← Prog.lift (.load rM (Rect.unit (s := S8x3x4x512) (k0_off20 i) S1x1x4x512.size (k0_off20_inb i h)).toLoadRect (View.loadsAt_vmem h_S1x1x4x512))
  let x ← Prog.lift (.load sM (Rect.unit (s := S4x2x512x512) (k0_off21 i) S1x2x512x512.size (k0_off21_inb i h)).toLoadRect (View.loadsAt_vmem h_S1x2x512x512))
  let g0 ← Prog.lift (.load gM modR0.toLoadRect (View.loadsAt_vmem h_S1x2x512))
  let g1 ← Prog.lift (.load gM modR1.toLoadRect (View.loadsAt_vmem h_S1x2x512))
  let _ ← Prog.lift (.load a5 (Rect.unit (s := S2x512x512) ![0, 0, 0] S2x512x512.size inb_S2x512x512_S2x512x512_0_0_0).toLoadRect (View.loadsAt_vmem h_S2x512x512))
  Prog.lift (.store a5 (Rect.unit (s := S2x512x512) ![0, 0, 0] S2x512x512.size inb_S2x512x512_S2x512x512_0_0_0) (k0_pay6 s r2 x g0 g1) Finset.univ
    (View.stores_vmem_bits_univ h_S2x512x512 rfl) (.inl rfl))

/-- A branch that goes on to the same rest either way is the branch, then the rest. -/
theorem then_rest {p : Prop} [Decidable p] {A' : p → Code F} {j : Code F} {A : p → Code F} {k : PUnit → Code F}
    (hA : ∀ h, A' h = (A h).bind fun _ => j) (hk : j = k ⟨⟩) :
    (if h : p then A' h else j) = (if h : p then A h else (pure ⟨⟩ : Code F)) >>= k := by
  subst hk
  by_cases h : p
  · rw [dif_pos h, dif_pos h, hA h]; rfl
  · rw [dif_neg h, dif_neg h]; rfl

set_option maxRecDepth 65536 in
theorem body_blocks :
    cc0_body (F := F) i a1 h1 a2 h2 a3 h3 a4 h4 a5 h5 sM (Memref.isWhole_whole _) lM (Memref.isWhole_whole _) rM (Memref.isWhole_whole _)
        gM (Memref.isWhole_whole _) cc0_scratch4 cc0_scratch5
      = Prog.lift .deviceId >>= fun c =>
        (if h : k0_cond1 i = 1#1 then sigB i a1 h1 a2 h2 a3 h3 a4 h4 a5 h5 c h else (pure ⟨⟩ : Code F)) >>= fun _ =>
        (if h : isFirst i = 1#1 then modB a2 a3 a4 else (pure ⟨⟩ : Code F)) >>= fun _ =>
        (if h : k0_cond3 i = 1#1 then statB a1 (k0_off1 i) (k0_off1_inb i h) (k0_off2 i) (k0_off2_inb i h) else (pure ⟨⟩ : Code F)) >>= fun _ =>
        (if h : isFirst i = 1#1 then semWaitWord barS 3#32 else (pure ⟨⟩ : Code F)) >>= fun _ =>
        (if h : k0_cond5 i = 1#1 then sendB i a1 h1 a2 h2 a3 h3 a4 h4 a5 h5 c h else (pure ⟨⟩ : Code F)) >>= fun _ =>
        (if h : k0_cond6 i = 1#1 then outB i a1 h1 a2 h2 a3 h3 a4 h4 a5 h5 c h else (pure ⟨⟩ : Code F)) >>= fun _ => pure ⟨⟩ := by
  rw [cc0_body_eq_skeleton]
  unfold cc0_body_skel
  refine congrArg (Bind.bind _) (funext fun c => ?_)
  refine then_rest (fun h => rfl) ?_
  refine then_rest (fun h => rfl) ?_
  refine then_rest (fun h => rfl) ?_
  refine then_rest (fun h => rfl) ?_
  refine then_rest (fun h => rfl) ?_
  exact then_rest (fun h => rfl) rfl

end Blocks

end Cert.KernelIdeal.Stats
-- ==== Proof.KernelIdeal.Steps.lean ====
/-
# The six blocks, each run once at a symbolic device

What each block of the kernel's body needs, and what it leaves.
-/
module

public import proofs.«01_k».proof.Proof.KernelIdeal.Blocks

@[expose] public section

noncomputable section

namespace Cert.KernelIdeal.Stats

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Pieces of buffers at the offsets the kernel computes -/

theorem rowM_at {k : Fin 8} {o : Fin 3 → ℕ} (h : o = ![k.val, 0, 0]) (b : ∀ a, o a + S1x4x512.size a ≤ S8x4x512.size a) :
    ((lM.slice (Rect.unit (s := S8x4x512) o S1x4x512.size b) (fun _ => rfl) : Memref sig .tc .vmem S1x4x512 .f32)).squeeze S4x512 squeezes_S1x4x512_S4x512 = rowM k := by
  subst h; rfl
theorem slotM_at {k : Fin 8} {e : Fin 3} {o : Fin 4 → ℕ} (h : o = ![k.val, e.val, 0, 0]) (b : ∀ a, o a + S1x1x4x512.size a ≤ S8x3x4x512.size a) :
    ((rM.slice (Rect.unit (s := S8x3x4x512) o S1x1x4x512.size b) (fun _ => rfl) : Memref sig .tc .vmem S1x1x4x512 .f32)).squeeze S4x512 squeezes_S1x1x4x512_S4x512 = slotM k e := by
  subst h; rfl
theorem sendAt_at {k : Fin 8} {e : Fin 3} {o : Fin 2 → ℕ} (h : o = ![k.val, e.val]) (b : ∀ a, o a + S1x1.size a ≤ S8x3.size a) :
    sendAt o b = sendS k e := by subst h; exact sendAt_eq k e b
theorem recvAt_at {k : Fin 8} {e : Fin 3} {o : Fin 2 → ℕ} (h : o = ![k.val, e.val]) (b : ∀ a, o a + S1x1.size a ≤ S8x3.size a) :
    recvAt o b = recvS k e := by subst h; exact recvAt_eq k e b

/-- Three things held together, one by one. -/
theorem bigSep_three (Φ : Fin 3 → sProp 𝕄) : bigSep Finset.univ Φ = iprop(Φ 0 ∗ Φ 1 ∗ Φ 2) :=
  (bigSep_univ_eq_bigSepL [0, 1, 2] (by decide) (by decide) Φ).trans (by simp only [bigSepL_cons_cons, bigSepL_singleton]; rfl)

variable (c : Dev nD)

/-- A whole buffer of received statistics is its slots, grouped by the signal that hands them over. -/
theorem slots_split (f : Buf (Elt F) ((c : Thread nD τ).loc cc0_scratch2)) :
    (((c : Thread nD τ).loc cc0_scratch2) ↦{fullShare} f : sProp 𝕄)
      ⊢ bigSep Finset.univ fun e : Fin 3 => bigSep Finset.univ fun k : Fin 8 => iprop(∃ f, slotPts c k e f) := by
  refine Entails.trans (Entails.of_eq ?_) (bigSep_mono fun e _ => bigSep_mono fun k _ => (show slotPts c k e f ⊢ iprop(∃ f, slotPts c k e f) from by
    iintro H; iexists f; iexact H))
  rw [← bigSep_univ_comm (fun (k : Fin 8) (e : Fin 3) => slotPts c k e f), ← bigSep_univ_prod (fun p : Fin 8 × Fin 3 => slotPts c p.1 p.2 f)]
  have h : (((c : Thread nD τ).loc cc0_scratch2) ↦[Finset.univ.biUnion fun p : Fin 8 × Fin 3 => slotSet p.1 p.2]{fullShare} f : sProp 𝕄) = _ :=
    pointsTo_biUnion _ _ (fun p _ p' _ h => slot_disjoint p p' h)
  rw [slots_cover] at h
  exact h

/-- A whole buffer of own statistics is its rows. -/
theorem rows_split (f : Buf (Elt F) ((c : Thread nD τ).loc cc0_scratch1)) :
    (((c : Thread nD τ).loc cc0_scratch1) ↦{fullShare} f : sProp 𝕄) = bigSep Finset.univ fun k : Fin 8 => rowPts c k fullShare f := by
  have h : (((c : Thread nD τ).loc cc0_scratch1) ↦[Finset.univ.biUnion rowSet]{fullShare} f : sProp 𝕄) = _ :=
    pointsTo_biUnion _ _ (fun k _ k' _ h => row_disjoint k k' h)
  rw [rows_cover] at h
  exact h

/-- What the barrier hands over is the slots that this device's copies fill. -/
theorem bar_slots : (bigSep Finset.univ fun d : Fin 3 => barPay (F := F) c d)
    = bigSep Finset.univ fun k : Fin 8 => bigSep Finset.univ fun e : Fin 3 => dstSlot c k e := by
  unfold barPay dstSlot
  rw [bigSep_univ_comm]
  refine bigSep_congr fun k _ => ?_
  rw [bigSep_univ_equiv Fin.revPerm]
  refine bigSep_congr fun e _ => ?_
  show iprop(∃ f, slotPts (pr c (Fin.rev (Fin.rev e))) k (Fin.rev e) f) = _
  rw [Fin.rev_rev]

/-! ## Loads of pieces -/

section Loads

theorem wp_load_row (k : Fin 8) {o : Fin 3 → ℕ} (h : o = ![k.val, 0, 0]) {b : ∀ a, o a + S1x4x512.size a ≤ S8x4x512.size a}
    {hl : lM.view.LoadsAt (Rect.unit (s := S8x4x512) o S1x4x512.size b).toLoadRect}
    {α : Type} {Q : α → sProp 𝕄} {kt : (S1x4x512.Idx → Elt F .f32) → Prog (TpuEff nD τ sig (Elt F) Λ₀ .tc) α} :
    (rowPts c k fullShare (LB m c) : sProp 𝕄)
      ⊢ iprop((rowPts c k fullShare (LB m c) -∗ wp frame (wpE (defs₀ (F := F)) 𝒱₀ (c : Thread nD τ) none) Set.univ (kt (k0_pay4 (X m c k))) Q)
          -∗ wp frame (wpE (defs₀ (F := F)) 𝒱₀ (c : Thread nD τ) none) Set.univ (.op (.load lM (Rect.unit (s := S8x4x512) o S1x4x512.size b).toLoadRect hl) kt) Q) := by
  subst h
  rw [← read_row m c k]
  exact wp_load_rect 𝒱₀ (c : Thread nD τ) none Set.univ (m := lM) (r := rowR k) (le_of_eq (View.set_slice_whole _ _))

theorem wp_load_slot (k : Fin 8) (e : Fin 3) {o : Fin 4 → ℕ} (h : o = ![k.val, e.val, 0, 0]) {b : ∀ a, o a + S1x1x4x512.size a ≤ S8x3x4x512.size a}
    {hl : rM.view.LoadsAt (Rect.unit (s := S8x3x4x512) o S1x1x4x512.size b).toLoadRect}
    {α : Type} {Q : α → sProp 𝕄} {kt : (S1x1x4x512.Idx → Elt F .f32) → Prog (TpuEff nD τ sig (Elt F) Λ₀ .tc) α} :
    (slotPts c k e (RB m c) : sProp 𝕄)
      ⊢ iprop((slotPts c k e (RB m c) -∗ wp frame (wpE (defs₀ (F := F)) 𝒱₀ (c : Thread nD τ) none) Set.univ (kt (slotVal m c k e)) Q)
          -∗ wp frame (wpE (defs₀ (F := F)) 𝒱₀ (c : Thread nD τ) none) Set.univ (.op (.load rM (Rect.unit (s := S8x3x4x512) o S1x1x4x512.size b).toLoadRect hl) kt) Q) := by
  subst h
  rw [← read_slot m c k e]
  exact wp_load_rect 𝒱₀ (c : Thread nD τ) none Set.univ (m := rM) (r := slotR k e) (le_of_eq (View.set_slice_whole _ _))

end Loads

/-! ## Contents after the stores -/

theorem mod_is (f : S2x2x512.Idx → Elt F .f32) :
    ModIs m c ((gM.access modR1).write (Elt F) ((gM.access modR0).write (Elt F) f (modScale m c) Finset.univ) (modShift m c) Finset.univ) := by
  refine ⟨?_, View.read_write_univ _ _⟩
  refine (View.read_slice_write_slice_of_disjoint (v := View.whole cc0_scratch3) modR0 modR1 _ _ _ ?_).trans (View.read_write_univ _ _)
  rw [View.setOn_univ, View.set_slice_whole, View.set_slice_whole]
  exact Rect.unit_disjoint 0 (.inl (by decide))

theorem saved_store (k : Fin 8) {lo hi lo' hi' : ℕ}
    (h : ∀ k' : Fin 8, lo' ≤ k'.val → k'.val < hi' → k' = k ∨ (lo ≤ k'.val ∧ k'.val < hi ∧ k'.val % 4 ≠ k.val % 4))
    (f : S4x2x512x512.Idx → Elt F .f32) (hf : Saved m c lo hi f) :
    Saved m c lo' hi' ((sM.access (saveR k)).write (Elt F) f (k0_pay5 (X m c k)) Finset.univ) := by
  intro k' hlo hhi
  rcases h k' hlo hhi with rfl | ⟨h1, h2, h3⟩
  · exact View.read_write_univ _ _
  · refine (View.read_slice_write_slice_of_disjoint (v := View.whole cc0_scratch0) (saveR k') (saveR k) _ _ _ ?_).trans (hf k' h1 h2)
    rw [View.setOn_univ, View.set_slice_whole, View.set_slice_whole]
    exact Rect.unit_disjoint 0 (by show k'.val % 4 + 1 ≤ k.val % 4 ∨ k.val % 4 + 1 ≤ k'.val % 4; omega)

theorem row_written (k : Fin 8) (f : Buf (Elt F) ((lM.access (rowR k)).loc (c : Thread nD τ))) :
    ((lM.access (rowR k)).loc (c : Thread nD τ) ↦[rowSet k]{fullShare} ((lM.access (rowR k)).write (Elt F) f (k0_pay4 (X m c k)) Finset.univ) : sProp 𝕄)
      ⊢ rowPts c k fullShare (LB m c) := by
  refine Entails.of_eq (pointsTo_congr fun i hi => ?_)
  have h := write_row m c k f i hi
  exact h

/-! ## The blocks -/

section Blocks

variable (K : Dev nD × KK → ℕ) (i : grid0.Coords)
  (a1 : Memref sig .tc .vmem S2x512x512 .f32) (h1 : a1.IsWhole) (a2 : Memref sig .tc .vmem S2x128 .f32) (h2 : a2.IsWhole)
  (a3 : Memref sig .tc .vmem S128x512 .f32) (h3 : a3.IsWhole) (a4 : Memref sig .tc .vmem S128x512 .f32) (h4 : a4.IsWhole)
  (a5 : Memref sig .tc .vmem S2x512x512 .f32) (h5 : a5.IsWhole)
  (W : Waits sig Unit)

theorem wp_sigB (h : k0_cond1 i = 1#1) {Q : PUnit → sProp 𝕄} {kt : PUnit → Code F} :
    iprop(records m K ∗ owes (c : Thread nD τ) (owedAll c) W ∗ (bigSep Finset.univ fun e : Fin 3 => dutyTok ER (barCell (pr c e)) 0 e)
        ∗ ∃ f, ((c : Thread nD τ).loc cc0_scratch2) ↦{fullShare} f)
      ⊢ iprop((owes (c : Thread nD τ) (owedFrom c 0) W -∗ wp frame (wpE (defs₀ (F := F)) 𝒱₀ (c : Thread nD τ) none) Set.univ (kt ⟨⟩) Q)
          -∗ wp frame (wpE (defs₀ (F := F)) 𝒱₀ (c : Thread nD τ) none) Set.univ (sigB i a1 h1 a2 h2 a3 h3 a4 h4 a5 h5 c h >>= kt) Q) := by
  unfold sigB
  rw [k0_part1_eq_skeleton]
  unfold k0_part1_skel
  simp only [Prog.bind_assoc, Prog.pure_eq_ret, Prog.bind_ret]
  rw [bigSep_three]
  iintro ⟨#HR, HO, ⟨Ht0, Ht1, Ht2⟩, ⟨%f, Hs⟩⟩ Hk
  ihave Hp := ((slots_split c f).trans (Entails.of_eq (bigSep_three _))) $$ Hs
  icases Hp with ⟨Hp0, Hp1, Hp2⟩
  unfold owedAll
  iapply (wp_signal_bar m c K 0 (dev1_eq c _) _ W) $$ [HO Ht0 Hp0]
  · isplitr; · iexact HR
    isplitl [HO]; · iexact HO
    isplitl [Ht0]; · iexact Ht0
    iexact Hp0
  iintro HO
  iapply (wp_signal_bar m c K 1 (dev2_eq c _) _ W) $$ [HO Ht1 Hp1]
  · isplitr; · iexact HR
    isplitl [HO]; · iexact HO
    isplitl [Ht1]; · iexact Ht1
    iexact Hp1
  iintro HO
  iapply (wp_signal_bar m c K 2 (dev3_eq c _) _ W) $$ [HO Ht2 Hp2]
  · isplitr; · iexact HR
    isplitl [HO]; · iexact HO
    isplitl [Ht2]; · iexact Ht2
    iexact Hp2
  iexact Hk

include h2 h3 h4 in
theorem wp_modB (T : S2x128.Idx → Elt F .f32) (Ws Wt : S128x512.Idx → Elt F .f32)
    (hs : k0_pay1 T Ws = modScale m c) (ht : k0_pay2 T Wt = modShift m c) {Q : PUnit → sProp 𝕄} {kt : PUnit → Code F} :
    iprop(owns (c : Thread nD τ) a2 fullShare T ∗ owns (c : Thread nD τ) a3 fullShare Ws ∗ owns (c : Thread nD τ) a4 fullShare Wt
        ∗ ∃ f, ((c : Thread nD τ).loc cc0_scratch3) ↦{fullShare} f)
      ⊢ iprop(((owns (c : Thread nD τ) a2 fullShare T ∗ owns (c : Thread nD τ) a3 fullShare Ws ∗ owns (c : Thread nD τ) a4 fullShare Wt ∗ modPts m c)
            -∗ wp frame (wpE (defs₀ (F := F)) 𝒱₀ (c : Thread nD τ) none) Set.univ (kt ⟨⟩) Q)
          -∗ wp frame (wpE (defs₀ (F := F)) 𝒱₀ (c : Thread nD τ) none) Set.univ (modB a2 a3 a4 >>= kt) Q) := by
  unfold modB
  simp only [Prog.lift, Prog.bind_op, Prog.bind_ret]
  iintro ⟨HT, Hs, Ht, ⟨%f, Hg⟩⟩ Hk
  have z2 : (![0, 0] : Fin 2 → ℕ) = fun _ => 0 := by funext a; fin_cases a <;> rfl
  iapply (wp_load_stage c a2 h2 z2 _ T) $$ HT
  iintro HT
  iapply (wp_load_stage c a3 h3 z2 _ Ws) $$ Hs
  iintro Hs
  iapply (wp_load 𝒱₀ (c : Thread nD τ) none Set.univ (m := gM) (S := Finset.univ) (Finset.subset_univ _)) $$ Hg
  iintro Hg
  iapply (wp_store 𝒱₀ (c : Thread nD τ) none Set.univ (m := gM) (r := modR0) (Mk := Finset.univ) (S := Finset.univ) (Finset.subset_univ _)) $$ Hg
  iintro Hg
  iapply (wp_load_stage c a2 h2 z2 _ T) $$ HT
  iintro HT
  iapply (wp_load_stage c a4 h4 z2 _ Wt) $$ Ht
  iintro Ht
  iapply (wp_load 𝒱₀ (c : Thread nD τ) none Set.univ (m := gM) (S := Finset.univ) (Finset.subset_univ _)) $$ Hg
  iintro Hg
  iapply (wp_store 𝒱₀ (c : Thread nD τ) none Set.univ (m := gM) (r := modR1) (Mk := Finset.univ) (S := Finset.univ) (Finset.subset_univ _)) $$ Hg
  iintro Hg
  iapply Hk
  isplitl [HT]; · iexact HT
  isplitl [Hs]; · iexact Hs
  isplitl [Ht]; · iexact Ht
  unfold modPts
  rw [hs, ht]
  iexists _
  isplitr; · ipureintro; exact mod_is m c f
  iexact Hg

include h1 in
theorem wp_statB (k : Fin 8) {o1 : Fin 3 → ℕ} (e1 : o1 = ![k.val, 0, 0]) (b1 : ∀ a, o1 a + S1x4x512.size a ≤ S8x4x512.size a)
    {o2 : Fin 4 → ℕ} (e2 : o2 = ![k.val % 4, 0, 0, 0]) (b2 : ∀ a, o2 a + S1x2x512x512.size a ≤ S4x2x512x512.size a) {lo hi lo' hi' : ℕ}
    (hsv : ∀ k' : Fin 8, lo' ≤ k'.val → k'.val < hi' → k' = k ∨ (lo ≤ k'.val ∧ k'.val < hi ∧ k'.val % 4 ≠ k.val % 4)) {Q : PUnit → sProp 𝕄} {kt : PUnit → Code F} :
    iprop(owns (c : Thread nD τ) a1 fullShare (X m c k) ∗ (∃ f, rowPts c k fullShare f) ∗ savedPts m c lo hi)
      ⊢ iprop(((owns (c : Thread nD τ) a1 fullShare (X m c k) ∗ rowPts c k fullShare (LB m c) ∗ savedPts m c lo' hi')
            -∗ wp frame (wpE (defs₀ (F := F)) 𝒱₀ (c : Thread nD τ) none) Set.univ (kt ⟨⟩) Q)
          -∗ wp frame (wpE (defs₀ (F := F)) 𝒱₀ (c : Thread nD τ) none) Set.univ (statB a1 o1 b1 o2 b2 >>= kt) Q) := by
  subst e1 e2
  unfold statB savedPts
  simp only [Prog.lift, Prog.bind_op, Prog.bind_ret]
  iintro ⟨Hx, ⟨%f, Hr⟩, ⟨%g, %hg, Hs⟩⟩ Hk
  have z3 : (![0, 0, 0] : Fin 3 → ℕ) = fun _ => 0 := by funext a; fin_cases a <;> rfl
  iapply (wp_load_stage c a1 h1 z3 _ (X m c k)) $$ Hx
  iintro Hx
  iapply (wp_load_rect 𝒱₀ (c : Thread nD τ) none Set.univ (m := lM) (r := rowR k) (S := rowSet k) (le_of_eq (View.set_slice_whole _ _))) $$ Hr
  iintro Hr
  iapply (wp_store 𝒱₀ (c : Thread nD τ) none Set.univ (m := lM) (r := rowR k) (Mk := Finset.univ) (S := rowSet k)
    (le_of_eq ((View.setOn_univ _).trans (View.set_slice_whole _ _)))) $$ Hr
  iintro Hr
  iapply (wp_load 𝒱₀ (c : Thread nD τ) none Set.univ (m := sM) (S := Finset.univ) (Finset.subset_univ _)) $$ Hs
  iintro Hs
  iapply (wp_store 𝒱₀ (c : Thread nD τ) none Set.univ (m := sM) (r := saveR k) (Mk := Finset.univ) (S := Finset.univ) (Finset.subset_univ _)) $$ Hs
  iintro Hs
  iapply Hk
  isplitl [Hx]; · iexact Hx
  isplitl [Hr]
  · iapply (row_written m c k f); iexact Hr
  iexists _
  isplitr; · ipureintro; exact saved_store m c k hsv g hg
  iexact Hs

theorem wp_sendB (k : Fin 8) (hi : (i 0).val = k.val) (h : k0_cond5 i = 1#1) {Q : PUnit → sProp 𝕄} {kt : PUnit → Code F} :
    iprop(records m K ∗ owes (c : Thread nD τ) (owedFrom c k.val) W ∗ rowPts c k fullShare (LB m c)
        ∗ (bigSep Finset.univ fun e : Fin 3 => lane c k e) ∗ bigSep Finset.univ fun e : Fin 3 => dstSlot c k e)
      ⊢ iprop(((owes (c : Thread nD τ) (owedFrom c (k.val + 1)) W ∗ inFlight c k)
            -∗ wp frame (wpE (defs₀ (F := F)) 𝒱₀ (c : Thread nD τ) none) Set.univ (kt ⟨⟩) Q)
          -∗ wp frame (wpE (defs₀ (F := F)) 𝒱₀ (c : Thread nD τ) none) Set.univ (sendB i a1 h1 a2 h2 a3 h3 a4 h4 a5 h5 c h >>= kt) Q) := by
  unfold sendB
  rw [k0_part2_eq_skeleton]
  unfold k0_part2_skel
  simp only [copyTo, Prog.lift, Prog.bind_op, Prog.pure_eq_ret, Prog.bind_ret]
  unfold inFlight
  rw [bigSep_three, bigSep_three, bigSep_three, owedFrom_step]
  iintro ⟨#HR, HO, Hr, ⟨Hl0, Hl1, Hl2⟩, Hd0, Hd1, Hd2⟩ Hk
  ihave Hr3 := (Ring.pointsTo_thirds fullShare (LB m c)).1 $$ Hr
  icases Hr3 with ⟨Hr0, Hr1, Hr2⟩
  iapply (wp_send_row m c K k 0 (dev4_eq c _) (rowM_at (by rw [k0_off6_eq, hi]) _) (slotM_at (by rw [k0_off5_eq, hi]; rfl) _)
    (sendAt_at (by rw [k0_off3_eq, hi]; rfl) _) (recvAt_at (by rw [k0_off4_eq, hi]; rfl) _) _ W) $$ [HO Hr0 Hl0 Hd0]
  · isplitr; · iexact HR
    isplitl [Hr0]; · iexact Hr0
    isplitl [Hd0]; · iexact Hd0
    isplitl [HO]; · iexact HO
    iexact Hl0
  iintro ⟨Hf0, HO⟩
  iapply (wp_send_row m c K k 1 (dev5_eq c _) (rowM_at (by rw [k0_off6_eq, hi]) _) (slotM_at (by rw [k0_off8_eq, hi]; rfl) _)
    (sendAt_at (by rw [k0_off7_eq, hi]; rfl) _) (recvAt_at (by rw [k0_off7_eq, hi]; rfl) _) _ W) $$ [HO Hr1 Hl1 Hd1]
  · isplitr; · iexact HR
    isplitl [Hr1]; · iexact Hr1
    isplitl [Hd1]; · iexact Hd1
    isplitl [HO]; · iexact HO
    iexact Hl1
  iintro ⟨Hf1, HO⟩
  iapply (wp_send_row m c K k 2 (dev6_eq c _) (rowM_at (by rw [k0_off6_eq, hi]) _) (slotM_at (by rw [k0_off9_eq, hi]; rfl) _)
    (sendAt_at (by rw [k0_off4_eq, hi]; rfl) _) (recvAt_at (by rw [k0_off3_eq, hi]; rfl) _) _ W) $$ [HO Hr2 Hl2 Hd2]
  · isplitr; · iexact HR
    isplitl [Hr2]; · iexact Hr2
    isplitl [Hd2]; · iexact Hd2
    isplitl [HO]; · iexact HO
    iexact Hl2
  iintro ⟨Hf2, HO⟩
  iapply Hk
  isplitl [HO]; · iexact HO
  isplitl [Hf0]; · iexact Hf0
  isplitl [Hf1]; · iexact Hf1
  iexact Hf2

/-! ### The waits and the output -/

section Offsets

theorem off10_at (h : k0_cond6 i = 1#1) : k0_off10 i = ![(i 0).val - 3, 0] := by revert i; decide +kernel
theorem off11_at (h : k0_cond6 i = 1#1) : k0_off11 i = ![(i 0).val - 3, 0, 0, 0] := by revert i; decide +kernel
theorem off12_at (h : k0_cond6 i = 1#1) : k0_off12 i = ![(i 0).val - 3, 0, 0] := by revert i; decide +kernel
theorem off13_at (h : k0_cond6 i = 1#1) : k0_off13 i = ![(i 0).val - 3, 1] := by revert i; decide +kernel
theorem off14_at (h : k0_cond6 i = 1#1) : k0_off14 i = ![(i 0).val - 3, 1, 0, 0] := by revert i; decide +kernel
theorem off15_at (h : k0_cond6 i = 1#1) : k0_off15 i = ![(i 0).val - 3, 2] := by revert i; decide +kernel
theorem off16_at (h : k0_cond6 i = 1#1) : k0_off16 i = ![(i 0).val - 3, 2, 0, 0] := by revert i; decide +kernel
theorem off17_at (h : k0_cond6 i = 1#1) : k0_off17 i = ![(i 0).val - 3, 0, 0] := by revert i; decide +kernel
theorem off18_at (h : k0_cond6 i = 1#1) : k0_off18 i = ![(i 0).val - 3, 0, 0, 0] := by revert i; decide +kernel
theorem off19_at (h : k0_cond6 i = 1#1) : k0_off19 i = ![(i 0).val - 3, 1, 0, 0] := by revert i; decide +kernel
theorem off20_at (h : k0_cond6 i = 1#1) : k0_off20 i = ![(i 0).val - 3, 2, 0, 0] := by revert i; decide +kernel
theorem off21_at (h : k0_cond6 i = 1#1) : k0_off21 i = ![((i 0).val - 3) % 4, 0, 0, 0] := by revert i; decide +kernel

end Offsets

/-- What the kernel writes out for block `k`. -/
def outVal (k : Fin 8) : FVec F S2x512x512 .f32 :=
  k0_pay6 (k0_pay7 (k0_pay4 (X m c k)) (slotVal m c k 0) (slotVal m c k 1)) (slotVal m c k 2) (k0_pay5 (X m c k)) (modScale m c) (modShift m c)

end Blocks

end Cert.KernelIdeal.Stats
-- ==== Proof.KernelIdeal.Output.lean ====
/-
# The last block: the waits for a row's copies, and the output

Three steps after a row was copied, the device waits for the three rows that
come in and for its own three copies to have been read, adds the four rows of
statistics and normalizes the saved block of its columns.
-/
module

public import proofs.«01_k».proof.Proof.KernelIdeal.Steps

@[expose] public section

noncomputable section

namespace Cert.KernelIdeal.Stats

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Blocks

variable (c : Dev nD) (K : Dev nD × KK → ℕ) (i : grid0.Coords)
  (a1 : Memref sig .tc .vmem S2x512x512 .f32) (h1 : a1.IsWhole) (a2 : Memref sig .tc .vmem S2x128 .f32) (h2 : a2.IsWhole)
  (a3 : Memref sig .tc .vmem S128x512 .f32) (h3 : a3.IsWhole) (a4 : Memref sig .tc .vmem S128x512 .f32) (h4 : a4.IsWhole)
  (a5 : Memref sig .tc .vmem S2x512x512 .f32) (h5 : a5.IsWhole)
  (W : Waits sig Unit)

/-- The three parts of a row lent to its copies are the row. -/
theorem row_join (k : Fin 8) : iprop(rowPts c k (third 0) (LB m c) ∗ rowPts c k (third 1) (LB m c) ∗ rowPts c k (third 2) (LB m c))
    ⊢ (rowPts c k fullShare (LB m c) : sProp 𝕄) := (Ring.pointsTo_thirds fullShare _).2

theorem wp_load_saved (k : Fin 8) {lo hi : ℕ} (hk : lo ≤ k.val ∧ k.val < hi) {o : Fin 4 → ℕ} (ho : o = ![k.val % 4, 0, 0, 0])
    {b : ∀ a, o a + S1x2x512x512.size a ≤ S4x2x512x512.size a} {hl : sM.view.LoadsAt (Rect.unit (s := S4x2x512x512) o S1x2x512x512.size b).toLoadRect}
    {α : Type} {Q : α → sProp 𝕄} {kt : (S1x2x512x512.Idx → Elt F .f32) → Prog (TpuEff nD τ sig (Elt F) Λ₀ .tc) α} :
    (savedPts m c lo hi : sProp 𝕄)
      ⊢ iprop((savedPts m c lo hi -∗ wp frame (wpE (defs₀ (F := F)) 𝒱₀ (c : Thread nD τ) none) Set.univ (kt (k0_pay5 (X m c k))) Q)
          -∗ wp frame (wpE (defs₀ (F := F)) 𝒱₀ (c : Thread nD τ) none) Set.univ (.op (.load sM (Rect.unit (s := S4x2x512x512) o S1x2x512x512.size b).toLoadRect hl) kt) Q) := by
  subst ho
  unfold savedPts
  iintro ⟨%f, %hf, H⟩ Hk
  iapply (wp_load 𝒱₀ (c : Thread nD τ) none Set.univ (m := sM) (S := Finset.univ) (Finset.subset_univ _)) $$ H
  iintro H
  rw [show sM.view.readAt (Elt F) (Rect.unit (s := S4x2x512x512) ![k.val % 4, 0, 0, 0] S1x2x512x512.size b).toLoadRect f = k0_pay5 (X m c k) from hf k hk.1 hk.2]
  iapply Hk
  iexists f
  isplitr; · ipureintro; exact hf
  iexact H

theorem wp_load_mod {hl0 : gM.view.LoadsAt modR0.toLoadRect} {hl1 : gM.view.LoadsAt modR1.toLoadRect}
    {α : Type} {Q : α → sProp 𝕄} {kt : (S1x2x512.Idx → Elt F .f32) → (S1x2x512.Idx → Elt F .f32) → Prog (TpuEff nD τ sig (Elt F) Λ₀ .tc) α} :
    (modPts m c : sProp 𝕄)
      ⊢ iprop((modPts m c -∗ wp frame (wpE (defs₀ (F := F)) 𝒱₀ (c : Thread nD τ) none) Set.univ (kt (modScale m c) (modShift m c)) Q)
          -∗ wp frame (wpE (defs₀ (F := F)) 𝒱₀ (c : Thread nD τ) none) Set.univ
              (.op (.load gM modR0.toLoadRect hl0) fun g0 => .op (.load gM modR1.toLoadRect hl1) fun g1 => kt g0 g1) Q) := by
  unfold modPts
  iintro ⟨%f, %hf, H⟩ Hk
  iapply (wp_load 𝒱₀ (c : Thread nD τ) none Set.univ (m := gM) (S := Finset.univ) (Finset.subset_univ _)) $$ H
  iintro H
  iapply (wp_load 𝒱₀ (c : Thread nD τ) none Set.univ (m := gM) (S := Finset.univ) (Finset.subset_univ _)) $$ H
  iintro H
  rw [hf.1, hf.2]
  iapply Hk
  iexists f
  isplitr; · ipureintro; exact hf
  iexact H

set_option maxHeartbeats 1000000 in
include h5 in
theorem wp_outB (j : Fin 8) (t : ℕ) (ht : j.val < t) (hi : (i 0).val - 3 = j.val) (h : k0_cond6 i = 1#1) {lo hi' : ℕ} (hj : lo ≤ j.val ∧ j.val < hi')
    (Y : S2x512x512.Idx → Elt F .f32) {Q : PUnit → sProp 𝕄} {kt : PUnit → Code F} :
    iprop(records m K ∗ levAts L lv ∗ owes (c : Thread nD τ) (owedFrom c t) W ∗ inFlight c j ∗ savedPts m c lo hi' ∗ modPts m c
        ∗ owns (c : Thread nD τ) a5 fullShare Y)
      ⊢ iprop((((∃ W', owes (c : Thread nD τ) (owedFrom c t) W') ∗ done m c j ∗ savedPts m c lo hi' ∗ modPts m c
              ∗ owns (c : Thread nD τ) a5 fullShare (outVal m c j))
            -∗ wp frame (wpE (defs₀ (F := F)) 𝒱₀ (c : Thread nD τ) none) Set.univ (kt ⟨⟩) Q)
          -∗ wp frame (wpE (defs₀ (F := F)) 𝒱₀ (c : Thread nD τ) none) Set.univ (outB i a1 h1 a2 h2 a3 h3 a4 h4 a5 h5 c h >>= kt) Q) := by
  unfold outB
  rw [k0_part3_eq_skeleton, k0_part4_eq_skeleton]
  unfold k0_part3_skel k0_part4_skel
  simp only [Prog.lift, Prog.bind_op, Prog.pure_eq_ret, Prog.bind_ret]
  unfold inFlight done flight landed
  rw [bigSep_three, bigSep_three]
  iintro ⟨#HR, #Hlev, HO, ⟨⟨HcS0, HaS0, HaR0, HcR0⟩, ⟨HcS1, HaS1, HaR1, HcR1⟩, ⟨HcS2, HaS2, HaR2, HcR2⟩⟩, Hsv, Hmd, Ho⟩ Hk
  have row : k0_off12 i = ![j.val, 0, 0] := by rw [off12_at i h, hi]
  have z3 : (![0, 0, 0] : Fin 3 → ℕ) = fun _ => 0 := by funext a; fin_cases a <;> rfl
  iapply (wp_wait_recv m c K j 0 (slotM_at (by rw [off11_at i h, hi]; rfl) _) (recvAt_at (by rw [off10_at i h, hi]; rfl) _) t ht _) $$ [HO HcR0 HaR0]
  · isplitr; · iexact HR
    isplitr; · iexact Hlev
    isplitl [HcR0]; · iexact HcR0
    isplitl [HO]; · iexact HO
    iexact HaR0
  iintro ⟨Hs0, Hz0, HO⟩
  iapply (wp_wait_send m c K j 0 (rowM_at row _) (sendAt_at (by rw [off10_at i h, hi]; rfl) _) t _) $$ [HO HcS0 HaS0]
  · isplitr; · iexact HR
    isplitr; · iexact Hlev
    isplitl [HcS0]; · iexact HcS0
    isplitl [HO]; · iexact HO
    iexact HaS0
  iintro ⟨Hr0, Hy0, HO⟩
  iapply (wp_wait_recv m c K j 1 (slotM_at (by rw [off14_at i h, hi]; rfl) _) (recvAt_at (by rw [off13_at i h, hi]; rfl) _) t ht _) $$ [HO HcR1 HaR1]
  · isplitr; · iexact HR
    isplitr; · iexact Hlev
    isplitl [HcR1]; · iexact HcR1
    isplitl [HO]; · iexact HO
    iexact HaR1
  iintro ⟨Hs1, Hz1, HO⟩
  iapply (wp_wait_send m c K j 1 (rowM_at row _) (sendAt_at (by rw [off13_at i h, hi]; rfl) _) t _) $$ [HO HcS1 HaS1]
  · isplitr; · iexact HR
    isplitr; · iexact Hlev
    isplitl [HcS1]; · iexact HcS1
    isplitl [HO]; · iexact HO
    iexact HaS1
  iintro ⟨Hr1, Hy1, HO⟩
  iapply (wp_wait_recv m c K j 2 (slotM_at (by rw [off16_at i h, hi]; rfl) _) (recvAt_at (by rw [off15_at i h, hi]; rfl) _) t ht _) $$ [HO HcR2 HaR2]
  · isplitr; · iexact HR
    isplitr; · iexact Hlev
    isplitl [HcR2]; · iexact HcR2
    isplitl [HO]; · iexact HO
    iexact HaR2
  iintro ⟨Hs2, Hz2, HO⟩
  iapply (wp_wait_send m c K j 2 (rowM_at row _) (sendAt_at (by rw [off15_at i h, hi]; rfl) _) t _) $$ [HO HcS2 HaS2]
  · isplitr; · iexact HR
    isplitr; · iexact Hlev
    isplitl [HcS2]; · iexact HcS2
    isplitl [HO]; · iexact HO
    iexact HaS2
  iintro ⟨Hr2, Hy2, HO⟩
  ihave Hr := (row_join m c j) $$ [Hr0 Hr1 Hr2]
  · isplitl [Hr0]; · iexact Hr0
    isplitl [Hr1]; · iexact Hr1
    iexact Hr2
  iapply (wp_load_row m c j (by rw [off17_at i h, hi])) $$ Hr
  iintro Hr
  iapply (wp_load_slot m c j 0 (by rw [off18_at i h, hi]; rfl)) $$ Hs0
  iintro Hs0
  iapply (wp_load_slot m c j 1 (by rw [off19_at i h, hi]; rfl)) $$ Hs1
  iintro Hs1
  iapply (wp_load_slot m c j 2 (by rw [off20_at i h, hi]; rfl)) $$ Hs2
  iintro Hs2
  iapply (wp_load_saved m c j hj (by rw [off21_at i h, hi])) $$ Hsv
  iintro Hsv
  iapply (wp_load_mod m c) $$ Hmd
  iintro Hmd
  iapply (wp_load_stage c a5 h5 z3 _ Y) $$ Ho
  iintro Ho
  iapply (wp_store_stage c a5 h5 z3 _ Y) $$ Ho
  iintro Ho
  iapply Hk
  isplitl [HO]; · iexists _; iexact HO
  isplitl [Hr Hs0 Hs1 Hs2 Hz0 Hz1 Hz2 Hy0 Hy1 Hy2]
  · isplitl [Hr]; · iexact Hr
    isplitl [Hs0 Hz0 Hy0]
    · isplitl [Hs0]; · iexact Hs0
      isplitl [Hy0]; · iexact Hy0
      iexact Hz0
    isplitl [Hs1 Hz1 Hy1]
    · isplitl [Hs1]; · iexact Hs1
      isplitl [Hy1]; · iexact Hy1
      iexact Hz1
    isplitl [Hs2]; · iexact Hs2
    isplitl [Hy2]; · iexact Hy2
    iexact Hz2
  isplitl [Hsv]; · iexact Hsv
  isplitl [Hmd]; · iexact Hmd
  iexact Ho

end Blocks

end Cert.KernelIdeal.Stats
-- ==== Proof.KernelIdeal.Body.lean ====
/-
# One step of the kernel

The invariant a device keeps between the steps, and the four kinds of steps:
the first one, those that only fill and copy a row, those that also finish an
earlier row, and those that only finish a row.
-/
module

public import proofs.«01_k».proof.Proof.KernelIdeal.Output

@[expose] public section

noncomputable section

namespace Cert.KernelIdeal.Stats

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The invariant -/

section Invariant
variable (c : Dev nD)

/-- What the launch deals a device. -/
def start : sProp 𝕄 :=
  iprop((∃ K, records m K) ∗ levAts L lv ∗ atPos ER (barCell c) 0 ∅ 0 ∗ cred (tallyAt (barCell c) () 3)
    ∗ (bigSep Finset.univ fun e : Fin 3 => dutyTok ER (barCell (pr c e)) 0 e)
    ∗ bigSep Finset.univ fun k : Fin 8 => bigSep Finset.univ fun e : Fin 3 => lane c k e)

/-- Before the first step: that, and the four scratch buffers. -/
def inv₀ : sProp 𝕄 :=
  iprop(start m c ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ ∃ f, ((c : Thread nD τ).loc cc0_scratch3) ↦{fullShare} f)

/-- Before a later step `t`. -/
def inv₁ (t : ℕ) : sProp 𝕄 :=
  iprop((∃ K, records m K) ∗ levAts L lv ∗ semVal (barCell c) 0 ∗ (bigSep Finset.univ fun k : Fin 8 => rowSt m c t k)
    ∗ savedPts m c (t - 3) t ∗ modPts m c)

/-! ## The rows during a step -/

/-- The rows once step `t` has sent its own. -/
def mid (t : ℕ) (k : Fin 8) : sProp 𝕄 := if k.val = t then inFlight c k else rowSt m c t k

theorem mid_other (t : ℕ) (k : Fin 8) (h : k.val ≠ t) : mid m c t k = rowSt m c t k := if_neg h
theorem mid_self (k : Fin 8) : mid m c k.val k = inFlight c k := if_pos rfl

theorem rows_send (k : Fin 8) : (bigSep Finset.univ fun k' : Fin 8 => rowSt m c k.val k')
    ⊢ iprop(fresh c k ∗ (inFlight c k -∗ bigSep Finset.univ fun k' : Fin 8 => mid m c k.val k')) := by
  have h := bigSep_univ_update (Φ := fun k' : Fin 8 => rowSt m c k.val k') (Ψ := fun k' : Fin 8 => mid m c k.val k') k
    (fun j hj => mid_other m c k.val j fun h => hj (Fin.ext h))
  rw [rowSt_fresh m c k.val k le_rfl, mid_self] at h
  exact h

theorem rows_early (t : ℕ) (ht : t < 3) : (bigSep Finset.univ fun k : Fin 8 => mid m c t k) = bigSep Finset.univ fun k : Fin 8 => rowSt m c (t + 1) k :=
  bigSep_congr fun k _ => by
    by_cases h : k.val = t
    · subst h; rw [mid_self, rowSt_flight m c _ k (by omega) (by omega)]
    · rw [mid_other m c t k h, rowSt_same m c t k h (by omega)]

theorem rows_late (t : ℕ) (ht : 8 ≤ t) : (bigSep Finset.univ fun k : Fin 8 => rowSt m c t k) = bigSep Finset.univ fun k : Fin 8 => mid m c t k :=
  bigSep_congr fun k _ => (mid_other m c t k (by have := k.isLt; omega)).symm

theorem rows_out (t : ℕ) (j : Fin 8) (hj : j.val + 3 = t) : (bigSep Finset.univ fun k : Fin 8 => mid m c t k)
    ⊢ iprop(inFlight c j ∗ (done m c j -∗ bigSep Finset.univ fun k : Fin 8 => rowSt m c (t + 1) k)) := by
  have h := bigSep_univ_update (Φ := fun k : Fin 8 => mid m c t k) (Ψ := fun k : Fin 8 => rowSt m c (t + 1) k) j
    (fun k hk => by
      by_cases h : k.val = t
      · subst h; rw [mid_self, rowSt_flight m c _ k (by omega) (by omega)]
      · rw [mid_other m c t k h, rowSt_same m c t k h (fun h' => hk (Fin.ext (by omega)))])
  rw [mid_other m c t j (by omega), rowSt_flight m c t j (by omega) (by omega), rowSt_done m c (t + 1) j (by omega)] at h
  exact h

/-- At the first step the rows come from the launch, and their destinations from the barrier. -/
theorem rows_first : iprop(inFlight c 0 ∗ bigSep (Finset.univ.erase 0) (fun k : Fin 8 => base c k)
      ∗ bigSep (Finset.univ.erase 0) fun k : Fin 8 => bigSep Finset.univ fun e : Fin 3 => dstSlot (F := F) c k e)
    ⊢ bigSep Finset.univ fun k : Fin 8 => rowSt m c 1 k := by
  rw [bigSep_univ_split (0 : Fin 8), rowSt_flight m c 1 0 (by decide) (by decide)]
  refine sep_mono_right ?_
  rw [← bigSep_sep']
  refine Entails.of_eq (bigSep_congr fun k hk => ?_)
  have h : k ≠ 0 := (Finset.mem_erase.mp hk).1
  rw [rowSt_fresh m c 1 k (by have := Fin.val_ne_of_ne h; simp at this; omega)]
  rfl

theorem base_intro (k : Fin 8) (f : Buf (Elt F) ((c : Thread nD τ).loc cc0_scratch1)) :
    iprop(rowPts c k fullShare f ∗ bigSep Finset.univ fun e : Fin 3 => lane c k e) ⊢ (base c k : sProp 𝕄) := by
  unfold base
  iintro ⟨H, Hl⟩
  isplitl [H]; · iexists f; iexact H
  iexact Hl

/-- The launched buffer of statistics and the launch's tokens, row by row, the first row apart. -/
theorem launch_rows (f : Buf (Elt F) ((c : Thread nD τ).loc cc0_scratch1)) :
    iprop((((c : Thread nD τ).loc cc0_scratch1) ↦{fullShare} f) ∗ bigSep Finset.univ fun k : Fin 8 => bigSep Finset.univ fun e : Fin 3 => lane c k e)
      ⊢ (iprop(((∃ f, rowPts c 0 fullShare f) ∗ bigSep Finset.univ fun e : Fin 3 => lane c 0 e) ∗ bigSep (Finset.univ.erase 0) fun k : Fin 8 => base c k) : sProp 𝕄) := by
  rw [rows_split, ← bigSep_sep']
  exact BIBase.Entails.trans (bigSep_mono fun k _ => base_intro c k f) (Entails.of_eq (bigSep_univ_split (0 : Fin 8) (Φ := fun k => base c k)))

/-- The barrier's three payloads are the destinations of every copy, those of the first row apart. -/
theorem bar_rows : (bigSep Finset.univ fun d : Fin 3 => barPay (F := F) c d)
    ⊢ (iprop((bigSep Finset.univ fun e : Fin 3 => dstSlot c 0 e)
      ∗ bigSep (Finset.univ.erase 0) fun k : Fin 8 => bigSep Finset.univ fun e : Fin 3 => dstSlot c k e) : sProp 𝕄) := by
  rw [bar_slots]
  exact Entails.of_eq (bigSep_univ_split (0 : Fin 8))

end Invariant

/-! ## The kernel's conditions -/

theorem cond1_iff (i : grid0.Coords) : k0_cond1 i = 1#1 ↔ (i 0).val = 0 := by revert i; decide +kernel
theorem first_iff (i : grid0.Coords) : isFirst i = 1#1 ↔ (i 0).val = 0 := by revert i; decide +kernel
theorem cond3_iff (i : grid0.Coords) : k0_cond3 i = 1#1 ↔ (i 0).val < 8 := by revert i; decide +kernel
theorem cond5_iff (i : grid0.Coords) : k0_cond5 i = 1#1 ↔ (i 0).val < 8 := by revert i; decide +kernel
theorem cond6_iff (i : grid0.Coords) : k0_cond6 i = 1#1 ↔ 3 ≤ (i 0).val := by revert i; decide +kernel

/-! ## The steps -/

section Step

variable (c : Dev nD) (i : grid0.Coords)
  (a1 : Memref sig .tc .vmem S2x512x512 .f32) (h1 : a1.IsWhole) (a2 : Memref sig .tc .vmem S2x128 .f32) (h2 : a2.IsWhole)
  (a3 : Memref sig .tc .vmem S128x512 .f32) (h3 : a3.IsWhole) (a4 : Memref sig .tc .vmem S128x512 .f32) (h4 : a4.IsWhole)
  (a5 : Memref sig .tc .vmem S2x512x512 .f32) (h5 : a5.IsWhole)

/-- The body after the device has read its number. -/
def blocks : Code F :=
  (if h : k0_cond1 i = 1#1 then sigB i a1 h1 a2 h2 a3 h3 a4 h4 a5 h5 c h else (pure ⟨⟩ : Code F)) >>= fun _ =>
  (if h : isFirst i = 1#1 then modB a2 a3 a4 else (pure ⟨⟩ : Code F)) >>= fun _ =>
  (if h : k0_cond3 i = 1#1 then statB a1 (k0_off1 i) (k0_off1_inb i h) (k0_off2 i) (k0_off2_inb i h) else (pure ⟨⟩ : Code F)) >>= fun _ =>
  (if h : isFirst i = 1#1 then semWaitWord barS 3#32 else (pure ⟨⟩ : Code F)) >>= fun _ =>
  (if h : k0_cond5 i = 1#1 then sendB i a1 h1 a2 h2 a3 h3 a4 h4 a5 h5 c h else (pure ⟨⟩ : Code F)) >>= fun _ =>
  (if h : k0_cond6 i = 1#1 then outB i a1 h1 a2 h2 a3 h3 a4 h4 a5 h5 c h else (pure ⟨⟩ : Code F)) >>= fun _ => pure ⟨⟩

theorem wp_body {Q : PUnit → sProp 𝕄} :
    wp frame (wpE (defs₀ (F := F)) 𝒱₀ (c : Thread nD τ) none) Set.univ (cc0_body (F := F) i a1 h1 a2 h2 a3 h3 a4 h4 a5 h5
        sM (Memref.isWhole_whole _) lM (Memref.isWhole_whole _) rM (Memref.isWhole_whole _) gM (Memref.isWhole_whole _) cc0_scratch4 cc0_scratch5) Q
      = wp frame (wpE (defs₀ (F := F)) 𝒱₀ (c : Thread nD τ) none) Set.univ (blocks c i a1 h1 a2 h2 a3 h3 a4 h4 a5 h5) Q := by
  rw [body_blocks, Prog.bind_lift, wp_deviceId]
  rfl

theorem wp_step_first (hi : (i 0).val = 0) (W : Waits sig Unit) (T : S2x128.Idx → Elt F .f32) (Ws Wt : S128x512.Idx → Elt F .f32)
    (hs : k0_pay1 T Ws = modScale m c) (ht : k0_pay2 T Wt = modShift m c) {Q : PUnit → sProp 𝕄} :
    iprop(inv₀ m c ∗ owes (c : Thread nD τ) (owedAll c) W ∗ owns (c : Thread nD τ) a1 fullShare (X m c 0)
        ∗ owns (c : Thread nD τ) a2 fullShare T ∗ owns (c : Thread nD τ) a3 fullShare Ws ∗ owns (c : Thread nD τ) a4 fullShare Wt)
      ⊢ iprop(((inv₁ m c 1 ∗ (∃ W', owes (c : Thread nD τ) (owedFrom c 1) W') ∗ owns (c : Thread nD τ) a1 fullShare (X m c 0)
              ∗ owns (c : Thread nD τ) a2 fullShare T ∗ owns (c : Thread nD τ) a3 fullShare Ws ∗ owns (c : Thread nD τ) a4 fullShare Wt) -∗ Q ⟨⟩)
          -∗ wp frame (wpE (defs₀ (F := F)) 𝒱₀ (c : Thread nD τ) none) Set.univ (blocks c i a1 h1 a2 h2 a3 h3 a4 h4 a5 h5) Q) := by
  have c1 := (cond1_iff i).mpr hi
  have cf := (first_iff i).mpr hi
  have c3 := (cond3_iff i).mpr (by omega)
  have c5 := (cond5_iff i).mpr (by omega)
  have c6 : ¬ k0_cond6 i = 1#1 := fun h => by have := (cond6_iff i).mp h; omega
  unfold blocks inv₀ start
  simp only [dif_pos c1, dif_pos cf, dif_pos c3, dif_pos c5, dif_neg c6, Prog.pure_eq_ret, Prog.bind_ret]
  iintro ⟨⟨⟨⟨%K, #HR⟩, #Hlev, HaB, HcB, Htk, Hln⟩, ⟨%fs, Hsv⟩, ⟨%fl, Hl⟩, Hr, Hg⟩, HO, Hx, HT, HWs, HWt⟩ Hk
  iapply (wp_sigB m c K i a1 h1 a2 h2 a3 h3 a4 h4 a5 h5 W c1) $$ [HO Htk Hr]
  · isplitr; · iexact HR
    isplitl [HO]; · iexact HO
    isplitl [Htk]; · iexact Htk
    iexact Hr
  iintro HO
  iapply (wp_modB m c a2 h2 a3 h3 a4 h4 T Ws Wt hs ht) $$ [HT HWs HWt Hg]
  · isplitl [HT]; · iexact HT
    isplitl [HWs]; · iexact HWs
    isplitl [HWt]; · iexact HWt
    iexact Hg
  iintro ⟨HT, HWs, HWt, Hmd⟩
  ihave Hrows := (launch_rows c fl) $$ [Hl Hln]
  · isplitl [Hl]; · iexact Hl
    iexact Hln
  icases Hrows with ⟨⟨Hrow, Hl0⟩, Hrest⟩
  iapply (wp_statB m c a1 h1 0 (by rw [k0_off1_eq, hi]; rfl) _ (by rw [k0_off2_eq, hi]; rfl) _ (lo := 0) (hi := 0) (lo' := 0) (hi' := 1)
    (fun k' _ h => .inl (Fin.ext (by show k'.val = 0; omega)))) $$ [Hx Hrow Hsv]
  · isplitl [Hx]; · iexact Hx
    isplitl [Hrow]; · iexact Hrow
    unfold savedPts
    iexists fs
    isplitr; · ipureintro; exact fun k _ h => absurd h (Nat.not_lt_zero _)
    iexact Hsv
  iintro ⟨Hx, Hrow, Hsv⟩
  iapply (wp_wait_bar m c K W) $$ [HcB HO HaB]
  · isplitr; · iexact HR
    isplitr; · iexact Hlev
    isplitl [HcB]; · iexact HcB
    isplitl [HO]; · iexact HO
    iexact HaB
  iintro ⟨Hd, HzB, HO⟩
  ihave Hd' := (bar_rows c) $$ Hd
  icases Hd' with ⟨Hd0, Hdr⟩
  iapply (wp_sendB m c K i a1 h1 a2 h2 a3 h3 a4 h4 a5 h5 _ 0 hi c5) $$ [HO Hrow Hl0 Hd0]
  · isplitr; · iexact HR
    isplitl [HO]; · iexact HO
    isplitl [Hrow]; · iexact Hrow
    isplitl [Hl0]; · iexact Hl0
    iexact Hd0
  iintro ⟨HO, Hfl⟩
  rw [wp_ret]
  imodintro
  iapply Hk
  isplitl [Hfl Hrest Hdr Hsv Hmd HzB]
  · unfold inv₁
    isplitr; · iexists K; iexact HR
    isplitr; · iexact Hlev
    isplitl [HzB]; · iexact HzB
    isplitl [Hfl Hrest Hdr]
    · iapply (rows_first m c)
      isplitl [Hfl]; · iexact Hfl
      isplitl [Hrest]; · iexact Hrest
      iexact Hdr
    isplitl [Hsv]; · iexact Hsv
    iexact Hmd
  isplitl [HO]; · iexists _; iexact HO
  isplitl [Hx]; · iexact Hx
  isplitl [HT]; · iexact HT
  isplitl [HWs]; · iexact HWs
  iexact HWt

/-- Filling and copying row `k` at a later step. -/
theorem wp_fill (K : Dev nD × KK → ℕ) (k : Fin 8) (hk : k.val ≠ 0) (hi : (i 0).val = k.val) (W : Waits sig Unit)
    (c3 : k0_cond3 i = 1#1) (c5 : k0_cond5 i = 1#1) {Q : PUnit → sProp 𝕄} {kt : PUnit → Code F} :
    iprop(records m K ∗ owes (c : Thread nD τ) (owedFrom c k.val) W ∗ (bigSep Finset.univ fun k' : Fin 8 => rowSt m c k.val k')
        ∗ savedPts m c (k.val - 3) k.val ∗ owns (c : Thread nD τ) a1 fullShare (X m c k))
      ⊢ iprop(((owes (c : Thread nD τ) (owedFrom c (k.val + 1)) W ∗ (bigSep Finset.univ fun k' : Fin 8 => mid m c k.val k')
              ∗ savedPts m c (k.val - 3) (k.val + 1) ∗ owns (c : Thread nD τ) a1 fullShare (X m c k)) -∗ wp frame (wpE (defs₀ (F := F)) 𝒱₀ (c : Thread nD τ) none) Set.univ (kt ⟨⟩) Q)
          -∗ wp frame (wpE (defs₀ (F := F)) 𝒱₀ (c : Thread nD τ) none) Set.univ (statB a1 (k0_off1 i) (k0_off1_inb i c3) (k0_off2 i) (k0_off2_inb i c3) >>= fun _ =>
              sendB i a1 h1 a2 h2 a3 h3 a4 h4 a5 h5 c c5 >>= kt) Q) := by
  iintro ⟨#HR, HO, Hrows, Hsv, Hx⟩ Hk
  ihave Hrows' := (rows_send m c k) $$ Hrows
  unfold fresh base
  icases Hrows' with ⟨⟨⟨Hrow, Hl0⟩, Hd0⟩, Hback⟩
  iapply (wp_statB m c a1 h1 k (by rw [k0_off1_eq, hi]) _ (by rw [k0_off2_eq, hi]) _ (lo := k.val - 3) (hi := k.val) (lo' := k.val - 3) (hi' := k.val + 1)
    (fun k' hl hh => (Nat.lt_succ_iff_lt_or_eq.mp hh).elim (fun h => .inr ⟨hl, h, by omega⟩) (fun h => .inl (Fin.ext h)))) $$ [Hx Hrow Hsv]
  · isplitl [Hx]; · iexact Hx
    isplitl [Hrow]; · iexact Hrow
    iexact Hsv
  iintro ⟨Hx, Hrow, Hsv⟩
  iapply (wp_sendB m c K i a1 h1 a2 h2 a3 h3 a4 h4 a5 h5 W k hi c5) $$ [HO Hrow Hl0 Hd0]
  · isplitr; · iexact HR
    isplitl [HO]; · iexact HO
    isplitl [Hrow]; · iexact Hrow
    isplitl [Hl0]; · iexact Hl0
    iexact Hd0
  iintro ⟨HO, Hfl⟩
  iapply Hk
  isplitl [HO]; · iexact HO
  isplitl [Hback Hfl]; · iapply Hback; iexact Hfl
  isplitl [Hsv]; · iexact Hsv
  iexact Hx

theorem wp_step_early (k : Fin 8) (hk : k.val ≠ 0) (hk' : k.val < 3) (hi : (i 0).val = k.val) (W : Waits sig Unit) {Q : PUnit → sProp 𝕄} :
    iprop(inv₁ m c k.val ∗ owes (c : Thread nD τ) (owedFrom c k.val) W ∗ owns (c : Thread nD τ) a1 fullShare (X m c k))
      ⊢ iprop(((inv₁ m c (k.val + 1) ∗ (∃ W', owes (c : Thread nD τ) (owedFrom c (k.val + 1)) W') ∗ owns (c : Thread nD τ) a1 fullShare (X m c k)) -∗ Q ⟨⟩)
          -∗ wp frame (wpE (defs₀ (F := F)) 𝒱₀ (c : Thread nD τ) none) Set.univ (blocks c i a1 h1 a2 h2 a3 h3 a4 h4 a5 h5) Q) := by
  have c1 : ¬ k0_cond1 i = 1#1 := fun h => by have := (cond1_iff i).mp h; omega
  have cf : ¬ isFirst i = 1#1 := fun h => by have := (first_iff i).mp h; omega
  have c3 := (cond3_iff i).mpr (by omega)
  have c5 := (cond5_iff i).mpr (by omega)
  have c6 : ¬ k0_cond6 i = 1#1 := fun h => by have := (cond6_iff i).mp h; omega
  unfold blocks inv₁
  simp only [dif_neg c1, dif_neg cf, dif_pos c3, dif_pos c5, dif_neg c6, Prog.pure_eq_ret, Prog.bind_ret]
  iintro ⟨⟨⟨%K, #HR⟩, #Hlev, HzB, Hrows, Hsv, Hmd⟩, HO, Hx⟩ Hk
  iapply (wp_fill m c i a1 h1 a2 h2 a3 h3 a4 h4 a5 h5 K k hk hi W c3 c5) $$ [HO Hrows Hsv Hx]
  · isplitr; · iexact HR
    isplitl [HO]; · iexact HO
    isplitl [Hrows]; · iexact Hrows
    isplitl [Hsv]; · iexact Hsv
    iexact Hx
  iintro ⟨HO, Hrows, Hsv, Hx⟩
  rw [wp_ret]
  imodintro
  iapply Hk
  isplitl [Hrows Hsv Hmd HzB]
  · isplitr; · iexists K; iexact HR
    isplitr; · iexact Hlev
    isplitl [HzB]; · iexact HzB
    isplitl [Hrows]; · iapply (Entails.of_eq (rows_early m c k.val hk')); iexact Hrows
    isplitl [Hsv]; · iapply (saved_mono (c := c) m (lo := k.val - 3) (hi := k.val + 1) (lo' := k.val + 1 - 3) (hi' := k.val + 1) fun k' h h' => ⟨by omega, h'⟩); iexact Hsv
    iexact Hmd
  isplitl [HO]; · iexists _; iexact HO
  iexact Hx

/-- Finishing row `j`. -/
theorem wp_finish (K : Dev nD × KK → ℕ) (j : Fin 8) (t : ℕ) (hj : j.val + 3 = t) (hi : (i 0).val = t) {hi' : ℕ} (hhi : t < hi' ∨ 8 ≤ hi') (W : Waits sig Unit) (c6 : k0_cond6 i = 1#1)
    (Y : S2x512x512.Idx → Elt F .f32) {Q : PUnit → sProp 𝕄} {kt : PUnit → Code F} :
    iprop(records m K ∗ levAts L lv ∗ owes (c : Thread nD τ) (owedFrom c (t + 1)) W ∗ (bigSep Finset.univ fun k : Fin 8 => mid m c t k)
        ∗ savedPts m c (t - 3) hi' ∗ modPts m c ∗ owns (c : Thread nD τ) a5 fullShare Y)
      ⊢ iprop((((∃ W', owes (c : Thread nD τ) (owedFrom c (t + 1)) W') ∗ (bigSep Finset.univ fun k : Fin 8 => rowSt m c (t + 1) k)
              ∗ savedPts m c (t - 3) hi' ∗ modPts m c ∗ owns (c : Thread nD τ) a5 fullShare (outVal m c j)) -∗ wp frame (wpE (defs₀ (F := F)) 𝒱₀ (c : Thread nD τ) none) Set.univ (kt ⟨⟩) Q)
          -∗ wp frame (wpE (defs₀ (F := F)) 𝒱₀ (c : Thread nD τ) none) Set.univ (outB i a1 h1 a2 h2 a3 h3 a4 h4 a5 h5 c c6 >>= kt) Q) := by
  iintro ⟨#HR, #Hlev, HO, Hrows, Hsv, Hmd, Ho⟩ Hk
  ihave Hrows' := (rows_out m c t j hj) $$ Hrows
  icases Hrows' with ⟨Hfl, Hback⟩
  iapply (wp_outB m c K i a1 h1 a2 h2 a3 h3 a4 h4 a5 h5 W j (t + 1) (by omega) (by omega) c6 (lo := t - 3) (hi' := hi') (by have := j.isLt; omega) Y) $$ [HO Hfl Hsv Hmd Ho]
  · isplitr; · iexact HR
    isplitr; · iexact Hlev
    isplitl [HO]; · iexact HO
    isplitl [Hfl]; · iexact Hfl
    isplitl [Hsv]; · iexact Hsv
    isplitl [Hmd]; · iexact Hmd
    iexact Ho
  iintro ⟨HO, Hdn, Hsv, Hmd, Ho⟩
  iapply Hk
  isplitl [HO]; · iexact HO
  isplitl [Hback Hdn]; · iapply Hback; iexact Hdn
  isplitl [Hsv]; · iexact Hsv
  isplitl [Hmd]; · iexact Hmd
  iexact Ho

theorem wp_step_middle (k j : Fin 8) (hj : j.val + 3 = k.val) (hi : (i 0).val = k.val) (W : Waits sig Unit) (Y : S2x512x512.Idx → Elt F .f32) {Q : PUnit → sProp 𝕄} :
    iprop(inv₁ m c k.val ∗ owes (c : Thread nD τ) (owedFrom c k.val) W ∗ owns (c : Thread nD τ) a1 fullShare (X m c k) ∗ owns (c : Thread nD τ) a5 fullShare Y)
      ⊢ iprop(((inv₁ m c (k.val + 1) ∗ (∃ W', owes (c : Thread nD τ) (owedFrom c (k.val + 1)) W') ∗ owns (c : Thread nD τ) a1 fullShare (X m c k)
              ∗ owns (c : Thread nD τ) a5 fullShare (outVal m c j)) -∗ Q ⟨⟩)
          -∗ wp frame (wpE (defs₀ (F := F)) 𝒱₀ (c : Thread nD τ) none) Set.univ (blocks c i a1 h1 a2 h2 a3 h3 a4 h4 a5 h5) Q) := by
  have c1 : ¬ k0_cond1 i = 1#1 := fun h => by have := (cond1_iff i).mp h; omega
  have cf : ¬ isFirst i = 1#1 := fun h => by have := (first_iff i).mp h; omega
  have c3 := (cond3_iff i).mpr (by have := k.isLt; omega)
  have c5 := (cond5_iff i).mpr (by have := k.isLt; omega)
  have c6 := (cond6_iff i).mpr (by omega)
  unfold blocks inv₁
  simp only [dif_neg c1, dif_neg cf, dif_pos c3, dif_pos c5, dif_pos c6, Prog.pure_eq_ret, Prog.bind_ret]
  iintro ⟨⟨⟨%K, #HR⟩, #Hlev, HzB, Hrows, Hsv, Hmd⟩, HO, Hx, Ho⟩ Hk
  iapply (wp_fill m c i a1 h1 a2 h2 a3 h3 a4 h4 a5 h5 K k (by omega) hi W c3 c5) $$ [HO Hrows Hsv Hx]
  · isplitr; · iexact HR
    isplitl [HO]; · iexact HO
    isplitl [Hrows]; · iexact Hrows
    isplitl [Hsv]; · iexact Hsv
    iexact Hx
  iintro ⟨HO, Hrows, Hsv, Hx⟩
  iapply (wp_finish m c i a1 h1 a2 h2 a3 h3 a4 h4 a5 h5 K j k.val hj hi (hi' := k.val + 1) (.inl (by omega)) W c6 Y) $$ [HO Hrows Hsv Hmd Ho]
  · isplitr; · iexact HR
    isplitr; · iexact Hlev
    isplitl [HO]; · iexact HO
    isplitl [Hrows]; · iexact Hrows
    isplitl [Hsv]; · iexact Hsv
    isplitl [Hmd]; · iexact Hmd
    iexact Ho
  iintro ⟨HO, Hrows, Hsv, Hmd, Ho⟩
  rw [wp_ret]
  imodintro
  iapply Hk
  isplitl [Hrows Hsv Hmd HzB]
  · isplitr; · iexists K; iexact HR
    isplitr; · iexact Hlev
    isplitl [HzB]; · iexact HzB
    isplitl [Hrows]; · iexact Hrows
    isplitl [Hsv]; · iapply (saved_mono (c := c) m (lo := k.val - 3) (hi := k.val + 1) (lo' := k.val + 1 - 3) (hi' := k.val + 1) fun k' h h' => ⟨by omega, h'⟩); iexact Hsv
    iexact Hmd
  isplitl [HO]; · iexact HO
  isplitl [Hx]; · iexact Hx
  iexact Ho

theorem wp_step_late (t : ℕ) (j : Fin 8) (ht : 8 ≤ t) (hj : j.val + 3 = t) (hi : (i 0).val = t) (W : Waits sig Unit) (Y : S2x512x512.Idx → Elt F .f32) {Q : PUnit → sProp 𝕄} :
    iprop(inv₁ m c t ∗ owes (c : Thread nD τ) (owedFrom c t) W ∗ owns (c : Thread nD τ) a5 fullShare Y)
      ⊢ iprop(((inv₁ m c (t + 1) ∗ (∃ W', owes (c : Thread nD τ) (owedFrom c (t + 1)) W') ∗ owns (c : Thread nD τ) a5 fullShare (outVal m c j)) -∗ Q ⟨⟩)
          -∗ wp frame (wpE (defs₀ (F := F)) 𝒱₀ (c : Thread nD τ) none) Set.univ (blocks c i a1 h1 a2 h2 a3 h3 a4 h4 a5 h5) Q) := by
  have c1 : ¬ k0_cond1 i = 1#1 := fun h => by have := (cond1_iff i).mp h; omega
  have cf : ¬ isFirst i = 1#1 := fun h => by have := (first_iff i).mp h; omega
  have c3 : ¬ k0_cond3 i = 1#1 := fun h => by have := (cond3_iff i).mp h; omega
  have c5 : ¬ k0_cond5 i = 1#1 := fun h => by have := (cond5_iff i).mp h; omega
  have c6 := (cond6_iff i).mpr (by omega)
  unfold blocks inv₁
  simp only [dif_neg c1, dif_neg cf, dif_neg c3, dif_neg c5, dif_pos c6, Prog.pure_eq_ret, Prog.bind_ret]
  rw [owedFrom_end c t ht, ← owedFrom_end c (t + 1) (by omega), rows_late m c t ht]
  iintro ⟨⟨⟨%K, #HR⟩, #Hlev, HzB, Hrows, Hsv, Hmd⟩, HO, Ho⟩ Hk
  iapply (wp_finish m c i a1 h1 a2 h2 a3 h3 a4 h4 a5 h5 K j t hj hi (hi' := t) (.inr ht) W c6 Y) $$ [HO Hrows Hsv Hmd Ho]
  · isplitr; · iexact HR
    isplitr; · iexact Hlev
    isplitl [HO]; · iexact HO
    isplitl [Hrows]; · iexact Hrows
    isplitl [Hsv]; · iexact Hsv
    isplitl [Hmd]; · iexact Hmd
    iexact Ho
  iintro ⟨HO, Hrows, Hsv, Hmd, Ho⟩
  rw [wp_ret]
  imodintro
  iapply Hk
  isplitl [Hrows Hsv Hmd HzB]
  · isplitr; · iexists K; iexact HR
    isplitr; · iexact Hlev
    isplitl [HzB]; · iexact HzB
    isplitl [Hrows]; · iexact Hrows
    isplitl [Hsv]; · iapply (saved_mono (c := c) m (lo := t - 3) (hi := t) (lo' := t + 1 - 3) (hi' := t + 1) fun k' h h' => ⟨by omega, by have := k'.isLt; omega⟩); iexact Hsv
    iexact Hmd
  isplitl [HO]; · iexact HO
  iexact Ho

end Step

end Cert.KernelIdeal.Stats
-- ==== Proof.KernelIdeal.Points.lean ====
/-
# Every step of the grid

The proof data of the kernel's pipeline: what each window's buffer holds after
each step, the invariant, and what the device still owes; and the proof that
the body keeps them.
-/
module

public import proofs.«01_k».proof.Proof.KernelIdeal.Body

@[expose] public section

noncomputable section

namespace Cert.KernelIdeal.Stats

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The proof data -/

/-- The row finished at point `t`, from the fourth point on. -/
def jOf (t : Fin cfg0.N) : Fin 8 := ⟨(t.val - 3) % 8, Nat.mod_lt _ (by decide)⟩

theorem lt_points (t : Fin cfg0.N) : t.val < 11 := lt_of_lt_of_eq t.isLt N_0
theorem jOf_val (t : Fin cfg0.N) (h : 3 ≤ t.val) : (jOf t).val + 3 = t.val := by
  have := lt_points t
  show (t.val - 3) % 8 + 3 = t.val
  omega

def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => outVal m c (jOf t)
  Φ t := match t with
    | ⟨0, _⟩ => inv₀ m c
    | ⟨n + 1, _⟩ => inv₁ m c (n + 1)
  q _ := fullShare
  owed t := match t with
    | ⟨0, _⟩ => owedAll c
    | ⟨n + 1, _⟩ => owedFrom c (n + 1)

theorem inv_later (c : Dev nD) (t : Fin (cfg0.N + 1)) (h : t.val ≠ 0) : (dats m ρ 0 c).Φ t = inv₁ m c t.val := by
  obtain ⟨_ | n, hn⟩ := t
  · exact absurd rfl h
  · rfl
theorem owed_later (c : Dev nD) (t : Fin (cfg0.N + 1)) (h : t.val ≠ 0) : (dats m ρ 0 c).owed t = owedFrom c t.val := by
  obtain ⟨_ | n, hn⟩ := t
  · exact absurd rfl h
  · rfl

/-- Every wait recorded is within the bound. -/
theorem owes_intro (c : Dev nD) (t : Fin (cfg0.N + 1)) :
    iprop(∃ W', owes (c : Thread nD τ) ((dats m ρ 0 c).owed t) W') ⊢ (dats m ρ 0 c).owesAt () t := by
  unfold Dat.owesAt Pipeline.owesWithin
  iintro ⟨%W, H⟩
  iexists W
  isplitr; · ipureintro; exact fun _ _ => Or.inl trivial
  iexact H
theorem owes_elim (c : Dev nD) (t : Fin (cfg0.N + 1)) :
    (dats m ρ 0 c).owesAt () t ⊢ iprop(∃ W', owes (c : Thread nD τ) ((dats m ρ 0 c).owed t) W') := by
  unfold Dat.owesAt Pipeline.owesWithin
  iintro ⟨%W, -, H⟩
  iexists W
  iexact H

/-! ## The windows' buffers -/

theorem before_0 (c : Dev nD) (t : Fin cfg0.N) (d) : (dats m ρ 0 c).before 0 t d = iblk m c 0 t :=
  ((dats m ρ 0 c).before_in_eq_fetched 0 rfl (fun _ => rfl) (fun _ _ _ => rfl) (fun _ => rfl) t d).trans rfl
theorem before_1 (c : Dev nD) (t : Fin cfg0.N) (d) : (dats m ρ 0 c).before 1 t d = iblk m c 1 t :=
  ((dats m ρ 0 c).before_in_eq_fetched 1 rfl (fun _ => rfl) (fun _ _ _ => rfl) (fun _ => rfl) t d).trans rfl
theorem before_2 (c : Dev nD) (t : Fin cfg0.N) (d) : (dats m ρ 0 c).before 2 t d = iblk m c 2 t :=
  ((dats m ρ 0 c).before_in_eq_fetched 2 rfl (fun _ => rfl) (fun _ _ _ => rfl) (fun _ => rfl) t d).trans rfl
theorem before_3 (c : Dev nD) (t : Fin cfg0.N) (d) : (dats m ρ 0 c).before 3 t d = iblk m c 3 t :=
  ((dats m ρ 0 c).before_in_eq_fetched 3 rfl (fun _ => rfl) (fun _ _ _ => rfl) (fun _ => rfl) t d).trans rfl

theorem coord_val (t : Fin cfg0.N) : ((grid0.coords t) 0).val = t.val := by revert t; decide +kernel

theorem idle_early (t : Fin cfg0.N) (h : t.val < 3) : cfg0.idle 4 (cfg0.grid.coords t) = true := by
  show (!(k0_cond6 (grid0.coords t) == 1#1)) = true
  have hn : ¬ k0_cond6 (grid0.coords t) = 1#1 := fun hc => by have := (cond6_iff _).mp hc; rw [coord_val] at this; omega
  rw [beq_eq_false_iff_ne.mpr hn]; rfl
theorem idle_late (t : Fin cfg0.N) (h : 3 ≤ t.val) : cfg0.idle 4 (cfg0.grid.coords t) = false := by
  show (!(k0_cond6 (grid0.coords t) == 1#1)) = false
  rw [(cond6_iff (grid0.coords t)).mpr (by rw [coord_val]; exact h)]; rfl
theorem flush_early (t : Fin cfg0.N) (h : t.val < 3) : (cfg0.win 4).flush t = false := by
  revert h; revert t; decide +kernel

section Held
variable (c : Dev nD) (t : Fin cfg0.N)

/-- The buffers the body is handed at point `t`. -/
def handed : sProp 𝕄 := iprop(owns (c : Thread nD τ) (st0_0 t) fullShare (iblk m c 0 t) ∗ owns (c : Thread nD τ) (st0_1 t) fullShare (iblk m c 1 t)
  ∗ owns (c : Thread nD τ) (st0_2 t) fullShare (iblk m c 2 t) ∗ owns (c : Thread nD τ) (st0_3 t) fullShare (iblk m c 3 t))

theorem handed_intro : (bigSep Finset.univ fun w : Fin cfg0.W => iprop(∃ d, owns (c : Thread nD τ) ((cfg0.win w).stage (cfg0.slots t w)) fullShare ((dats m ρ 0 c).before w t d)))
    ⊢ iprop(handed m c t ∗ ∃ d, owns (c : Thread nD τ) (st0_4 t) fullShare ((dats m ρ 0 c).before 4 t d)) := by
  refine (Entails.of_eq (bigSep_W0 _)).trans ?_
  unfold handed
  iintro ⟨⟨%d0, H0⟩, ⟨%d1, H1⟩, ⟨%d2, H2⟩, ⟨%d3, H3⟩, H4⟩
  isplitr [H4]
  · isplitl [H0]; · iapply (Entails.of_eq (congrArg _ (before_0 m ρ c t d0))); iexact H0
    isplitl [H1]; · iapply (Entails.of_eq (congrArg _ (before_1 m ρ c t d1))); iexact H1
    isplitl [H2]; · iapply (Entails.of_eq (congrArg _ (before_2 m ρ c t d2))); iexact H2
    iapply (Entails.of_eq (congrArg _ (before_3 m ρ c t d3))); iexact H3
  iexact H4

theorem returned_early (h : t.val < 3) :
    iprop(handed m c t ∗ ∃ d, owns (c : Thread nD τ) (st0_4 t) fullShare ((dats m ρ 0 c).before 4 t d))
      ⊢ bigSep Finset.univ fun w : Fin cfg0.W => (dats m ρ 0 c).leavesExact w t := by
  refine BIBase.Entails.trans ?_ (Entails.of_eq (bigSep_W0 _).symm)
  rw [(dats m ρ 0 c).leavesExact_idle 4 t (idle_early t h) (flush_early t h)]
  unfold handed
  iintro ⟨⟨H0, H1, H2, H3⟩, H4⟩
  isplitl [H0]; · iexact H0
  isplitl [H1]; · iexact H1
  isplitl [H2]; · iexact H2
  isplitl [H3]; · iexact H3
  iexact H4

theorem leaves_out (h : 3 ≤ t.val) : (dats m ρ 0 c).leavesExact 4 t = owns (c : Thread nD τ) (st0_4 t) fullShare (outVal m c (jOf t)) := by
  unfold Dat.leavesExact; rw [idle_late t h]; rfl

theorem returned_late (h : 3 ≤ t.val) :
    iprop(handed m c t ∗ owns (c : Thread nD τ) (st0_4 t) fullShare (outVal m c (jOf t)))
      ⊢ bigSep Finset.univ fun w : Fin cfg0.W => (dats m ρ 0 c).leavesExact w t := by
  refine BIBase.Entails.trans ?_ (Entails.of_eq (bigSep_W0 _).symm)
  rw [leaves_out m ρ c t h]
  unfold handed
  iintro ⟨⟨H0, H1, H2, H3⟩, H4⟩
  isplitl [H0]; · iexact H0
  isplitl [H1]; · iexact H1
  isplitl [H2]; · iexact H2
  isplitl [H3]; · iexact H3
  iexact H4

/-! ## The body -/

/-- The body at point `t` is the blocks, at its buffers. -/
theorem wp_point {Q : PUnit → sProp 𝕄} :
    wp frame (wpE (defs₀ (F := F)) 𝒱₀ (c : Thread nD τ) none) Set.univ (bodyAt0 (F := F) t) Q
      = wp frame (wpE (defs₀ (F := F)) 𝒱₀ (c : Thread nD τ) none) Set.univ
          (blocks c (grid0.coords t) (st0_0 t) (hstage0_0 ((cfg0.slots t 0).cast nbuf0_0)) (st0_1 t) (hstage0_1 ((cfg0.slots t 1).cast nbuf0_1))
            (st0_2 t) (hstage0_2 ((cfg0.slots t 2).cast nbuf0_2)) (st0_3 t) (hstage0_3 ((cfg0.slots t 3).cast nbuf0_3))
            (st0_4 t) (hstage0_4 ((cfg0.slots t 4).cast nbuf0_4))) Q :=
  wp_body c (grid0.coords t) _ _ _ _ _ _ _ _ _ _

/-- What the body is given, and what it returns. -/
def given : sProp 𝕄 := iprop((dats m ρ 0 c).Φ t.castSucc ∗ (dats m ρ 0 c).owesAt () t.castSucc
  ∗ handed m c t ∗ ∃ d, owns (c : Thread nD τ) (st0_4 t) fullShare ((dats m ρ 0 c).before 4 t d))
def returned : sProp 𝕄 := iprop((dats m ρ 0 c).Φ t.succ ∗ (dats m ρ 0 c).owesAt () t.succ
  ∗ bigSep Finset.univ fun w : Fin cfg0.W => (dats m ρ 0 c).leavesExact w t)

end Held

section Points
variable (c : Dev nD)

theorem point_first : given m ρ c (tt 0) ⊢ wp frame (wpE (defs₀ (F := F)) 𝒱₀ (c : Thread nD τ) none) Set.univ (bodyAt0 (F := F) (tt 0)) fun _ => returned m ρ c (tt 0) := by
  rw [wp_point]
  unfold given returned
  rw [show (dats m ρ 0 c).Φ (tt 0).castSucc = inv₀ m c from rfl, show (dats m ρ 0 c).Φ (tt 0).succ = inv₁ m c 1 from rfl]
  iintro ⟨HΦ, Ho, Hin, Hout⟩
  ihave Ho' := (owes_elim m ρ c (tt 0).castSucc) $$ Ho
  icases Ho' with ⟨%W, HO⟩
  unfold handed
  icases Hin with ⟨H0, H1, H2, H3⟩
  iapply (wp_step_first m c (grid0.coords (tt 0)) _ _ _ _ _ _ _ _ _ _ (coord_val (tt 0)) W _ _ _ rfl rfl) $$ [HΦ HO H0 H1 H2 H3]
  · isplitl [HΦ]; · iexact HΦ
    isplitl [HO]; · iexact HO
    isplitl [H0]; · iexact H0
    isplitl [H1]; · iexact H1
    isplitl [H2]; · iexact H2
    iexact H3
  iintro ⟨HΦ, HO, H0, H1, H2, H3⟩
  isplitl [HΦ]; · iexact HΦ
  isplitl [HO]; · iapply (owes_intro m ρ c (tt 0).succ); iexact HO
  iapply (returned_early m ρ c (tt 0) (by decide))
  isplitr [Hout]
  · unfold handed
    isplitl [H0]; · iexact H0
    isplitl [H1]; · iexact H1
    isplitl [H2]; · iexact H2
    iexact H3
  iexact Hout

theorem point_early (k : Fin 8) (hk : k.val ≠ 0) (hk' : k.val < 3) :
    given m ρ c (tt k) ⊢ wp frame (wpE (defs₀ (F := F)) 𝒱₀ (c : Thread nD τ) none) Set.univ (bodyAt0 (F := F) (tt k)) fun _ => returned m ρ c (tt k) := by
  rw [wp_point]
  unfold given returned
  rw [inv_later m ρ c (tt k).castSucc hk, inv_later m ρ c (tt k).succ (Nat.succ_ne_zero _)]
  iintro ⟨HΦ, Ho, Hin, Hout⟩
  ihave Ho' := ((owes_elim m ρ c (tt k).castSucc).trans (Entails.of_eq (by rw [owed_later m ρ c (tt k).castSucc hk]))) $$ Ho
  icases Ho' with ⟨%W, HO⟩
  unfold handed
  icases Hin with ⟨H0, Hin⟩
  iapply (wp_step_early m c (grid0.coords (tt k)) _ _ _ _ _ _ _ _ _ _ k hk hk' (coord_val (tt k)) W) $$ [HΦ HO H0]
  · isplitl [HΦ]; · iexact HΦ
    isplitl [HO]; · iexact HO
    iexact H0
  iintro ⟨HΦ, HO, H0⟩
  isplitl [HΦ]; · iexact HΦ
  isplitl [HO]
  · iapply ((Entails.of_eq (by rw [owed_later m ρ c (tt k).succ (Nat.succ_ne_zero _)])).trans (owes_intro m ρ c (tt k).succ)); iexact HO
  iapply (returned_early m ρ c (tt k) hk')
  isplitr [Hout]
  · unfold handed
    isplitl [H0]; · iexact H0
    iexact Hin
  iexact Hout

theorem point_middle (k : Fin 8) (hk : 3 ≤ k.val) :
    given m ρ c (tt k) ⊢ wp frame (wpE (defs₀ (F := F)) 𝒱₀ (c : Thread nD τ) none) Set.univ (bodyAt0 (F := F) (tt k)) fun _ => returned m ρ c (tt k) := by
  have hk0 : (tt k).val ≠ 0 := fun h => by have : k.val = 0 := h; omega
  rw [wp_point]
  unfold given returned
  rw [inv_later m ρ c (tt k).castSucc hk0, inv_later m ρ c (tt k).succ (Nat.succ_ne_zero _)]
  iintro ⟨HΦ, Ho, Hin, ⟨%d, Hout⟩⟩
  ihave Ho' := ((owes_elim m ρ c (tt k).castSucc).trans (Entails.of_eq (by rw [owed_later m ρ c (tt k).castSucc hk0]))) $$ Ho
  icases Ho' with ⟨%W, HO⟩
  unfold handed
  icases Hin with ⟨H0, Hin⟩
  iapply (wp_step_middle m c (grid0.coords (tt k)) _ _ _ _ _ _ _ _ _ _ k (jOf (tt k)) (jOf_val (tt k) hk) (coord_val (tt k)) W _) $$ [HΦ HO H0 Hout]
  · isplitl [HΦ]; · iexact HΦ
    isplitl [HO]; · iexact HO
    isplitl [H0]; · iexact H0
    iexact Hout
  iintro ⟨HΦ, HO, H0, Hout⟩
  isplitl [HΦ]; · iexact HΦ
  isplitl [HO]
  · iapply ((Entails.of_eq (by rw [owed_later m ρ c (tt k).succ (Nat.succ_ne_zero _)])).trans (owes_intro m ρ c (tt k).succ)); iexact HO
  iapply (returned_late m ρ c (tt k) hk)
  isplitr [Hout]
  · unfold handed
    isplitl [H0]; · iexact H0
    iexact Hin
  iexact Hout

theorem point_late (t : Fin cfg0.N) (ht : 8 ≤ t.val) :
    given m ρ c t ⊢ wp frame (wpE (defs₀ (F := F)) 𝒱₀ (c : Thread nD τ) none) Set.univ (bodyAt0 (F := F) t) fun _ => returned m ρ c t := by
  have ht0 : t.val ≠ 0 := by omega
  rw [wp_point]
  unfold given returned
  rw [inv_later m ρ c t.castSucc ht0, inv_later m ρ c t.succ (Nat.succ_ne_zero _)]
  iintro ⟨HΦ, Ho, Hin, ⟨%d, Hout⟩⟩
  ihave Ho' := ((owes_elim m ρ c t.castSucc).trans (Entails.of_eq (by rw [owed_later m ρ c t.castSucc ht0]))) $$ Ho
  icases Ho' with ⟨%W, HO⟩
  iapply (wp_step_late m c (grid0.coords t) _ _ _ _ _ _ _ _ _ _ t.val (jOf t) ht (jOf_val t (by omega)) (coord_val t) W _) $$ [HΦ HO Hout]
  · isplitl [HΦ]; · iexact HΦ
    isplitl [HO]; · iexact HO
    iexact Hout
  iintro ⟨HΦ, HO, Hout⟩
  isplitl [HΦ]; · iexact HΦ
  isplitl [HO]
  · iapply ((Entails.of_eq (by rw [owed_later m ρ c t.succ (Nat.succ_ne_zero _)])).trans (owes_intro m ρ c t.succ)); iexact HO
  iapply (returned_late m ρ c t (by omega))
  isplitr [Hout]
  · iexact Hin
  iexact Hout

theorem point_any (t : Fin cfg0.N) :
    given m ρ c t ⊢ wp frame (wpE (defs₀ (F := F)) 𝒱₀ (c : Thread nD τ) none) Set.univ (bodyAt0 (F := F) t) fun _ => returned m ρ c t := by
  by_cases h8 : 8 ≤ t.val
  · exact point_late m ρ c t h8
  obtain ⟨k, rfl⟩ : ∃ k : Fin 8, t = tt k := ⟨⟨t.val, by omega⟩, Fin.ext rfl⟩
  by_cases h3 : 3 ≤ k.val
  · exact point_middle m ρ c k h3
  by_cases h0 : k.val = 0
  · obtain rfl : k = 0 := Fin.ext h0
    exact point_first m ρ c
  · exact point_early m ρ c k h0 (by omega)

/-- The body obligation of the pipeline on device `c`. -/
theorem body_obligation : BodyObligation (dats (F := F) m ρ 0 c) (defs₀ (F := F)) 𝒱₀ () Set.univ := fun t =>
  (sep_mono_right (sep_mono_right (handed_intro m ρ c t))).trans (point_any m ρ c t)

end Points

end Cert.KernelIdeal.Stats
-- ==== Proof.KernelIdeal.Launch.lean ====
/-
# The run

What the launch creates for the protocol, how it is dealt to the devices, what
each device gives back, and the run of the program on the mesh of four devices:
it ends, the arrays hold what the pipeline's proof data say, and every
semaphore is at zero.
-/
module

public import proofs.«01_k».proof.Proof.KernelIdeal.Points
public import Idealize.ShloMosaic.Lib.Pipeline.CollectiveSegs

@[expose] public section

noncomputable section

namespace Cert.KernelIdeal.Stats

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## Conjunctions over the places of a protocol -/

/-- The semaphores of the copies: sent (`false`) and received (`true`). -/
abbrev KS : Type := Bool × Fin 8 × Fin 3
def semOf : KS → SemLoc sig
  | (false, k, e) => .dma (sendS k e)
  | (true, k, e) => .dma (recvS k e)

theorem cellAt_some (c : Dev nD) (x : KS) : cellAt c (some x) = ((c : Thread nD τ), semOf x) := by
  obtain ⟨_ | _, k, e⟩ := x <;> rfl

theorem ownSemFacts : Pipeline.OwnSemFacts cfg0.spec semOf := by decide +kernel

theorem sep_two (Φ : Bool → sProp 𝕄) : bigSep Finset.univ Φ = iprop(Φ false ∗ Φ true) :=
  bigSep_univ_eq_bigSepL [false, true] (by decide) (by decide) Φ

theorem sep_copies (Φ : KS → sProp 𝕄) : bigSep Finset.univ Φ
    = iprop((bigSep Finset.univ fun k : Fin 8 => bigSep Finset.univ fun e : Fin 3 => Φ (false, k, e))
      ∗ bigSep Finset.univ fun k : Fin 8 => bigSep Finset.univ fun e : Fin 3 => Φ (true, k, e)) := by
  rw [bigSep_univ_prod, sep_two, bigSep_univ_prod, bigSep_univ_prod]

theorem sep_cells (Φ : KK → sProp 𝕄) : bigSep Finset.univ Φ = iprop(Φ none ∗ bigSep Finset.univ fun x : KS => Φ (some x)) := by
  rw [bigSep_univ_at Φ none, show (Finset.univ : Finset KK).erase none = Finset.univ.map Function.Embedding.some from by decide +kernel, bigSep_map]
  rfl

/-! ## What is created -/

theorem cell_injective : Function.Injective (fun p : Dev nD × KK => cellAt p.1 p.2) := by
  rintro ⟨c, x⟩ ⟨c', x'⟩ h
  have hc : c = c' := by
    have h' := congrArg (fun g : GSem nD τ sig => g.1.1) h
    rcases x with _ | ⟨_ | _, k, e⟩ <;> rcases x' with _ | ⟨_ | _, k', e'⟩ <;> exact h'
  subst hc
  rcases x with _ | x <;> rcases x' with _ | x'
  · rfl
  · have h' : (SemLoc.reg barS : SemLoc sig) = semOf x' := congrArg Prod.snd (h.trans (cellAt_some c x'))
    obtain ⟨_ | _, k, e⟩ := x' <;> cases h'
  · have h' : semOf x = (SemLoc.reg barS : SemLoc sig) := congrArg Prod.snd ((cellAt_some c x).symm.trans h)
    obtain ⟨_ | _, k, e⟩ := x <;> cases h'
  · have h' : semOf x = semOf x' := congrArg Prod.snd ((cellAt_some c x).symm.trans (h.trans (cellAt_some c x')))
    rw [ownSemFacts.inj h']

def allCells : Finset (GSem nD τ sig) := Finset.univ.map ⟨_, cell_injective⟩

/-- The tokens of a device's own cells: three of its barrier, one of each copy. -/
def tokAt (p : Dev nD × (Fin 3 ⊕ KS)) : GSem nD τ sig × ℕ × Fin 3 := match p.2 with
  | .inl e => (cellAt p.1 none, 0, e)
  | .inr x => (cellAt p.1 (some x), 0, 0)

theorem tok_injective : Function.Injective tokAt := by
  rintro ⟨c, x⟩ ⟨c', x'⟩ h
  have hcell {y y' : KK} (h' : cellAt c y = cellAt c' y') : c = c' ∧ y = y' :=
    ⟨congrArg Prod.fst (cell_injective (a₁ := (c, y)) (a₂ := (c', y')) h'), congrArg Prod.snd (cell_injective (a₁ := (c, y)) (a₂ := (c', y')) h')⟩
  rcases x with e | x <;> rcases x' with e' | x'
  · have h1 : cellAt c none = cellAt c' none := congrArg Prod.fst h
    obtain ⟨rfl, -⟩ := hcell h1
    have : e = e' := congrArg (fun q : GSem nD τ sig × ℕ × Fin 3 => q.2.2) h
    rw [this]
  · have h1 : cellAt c none = cellAt c' (some x') := congrArg Prod.fst h
    cases (hcell h1).2
  · have h1 : cellAt c (some x) = cellAt c' none := congrArg Prod.fst h
    cases (hcell h1).2
  · have h1 : cellAt c (some x) = cellAt c' (some x') := congrArg Prod.fst h
    obtain ⟨rfl, h2⟩ := hcell h1
    rw [Option.some.inj h2]

def allToks : Finset (GSem nD τ sig × ℕ × Fin 3) := Finset.univ.map ⟨_, tok_injective⟩

def u₀ : UU :=
  (initOf (Pipeline.cells cfgs cellOf_inj) (Pipeline.launchToks cfgs cellOf_inj), initOf allCells allToks)

/-- The tokens of device `c`'s own cells. -/
def ownToks (c : Dev nD) : sProp 𝕄 :=
  iprop((bigSep Finset.univ fun e : Fin 3 => dutyTok ER (barCell c) 0 e)
    ∗ (bigSep Finset.univ fun k : Fin 8 => bigSep Finset.univ fun e : Fin 3 => dutyTok ER (sendCell c k e) 0 0)
    ∗ bigSep Finset.univ fun k : Fin 8 => bigSep Finset.univ fun e : Fin 3 => dutyTok ER (recvCell c k e) 0 0)
/-- The tokens of the landings device `c` brings about. -/
def payToks (c : Dev nD) : sProp 𝕄 :=
  iprop((bigSep Finset.univ fun e : Fin 3 => dutyTok ER (barCell (pr c e)) 0 e)
    ∗ (bigSep Finset.univ fun k : Fin 8 => bigSep Finset.univ fun e : Fin 3 => dutyTok ER (sendCell c k e) 0 0)
    ∗ bigSep Finset.univ fun k : Fin 8 => bigSep Finset.univ fun e : Fin 3 => dutyTok ER (recvCell (pr c e) k e.rev) 0 0)

/-- What device `c` is dealt, before the devices exchange tokens. -/
def dealt (c : Dev nD) : sProp 𝕄 :=
  iprop((bigSep Finset.univ fun x : KK => roundState ER (sched m) (cellAt c x) 0)
    ∗ (bigSep Finset.univ fun x : KK => iprop(atPos ER (cellAt c x) 0 ∅ 0 ∗ reached ER (cellAt c x) 0)) ∗ ownToks c)

theorem fund_all : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun x : KK => Φ (cellAt c x) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]
    exact bigSep_congr fun c _ => by unfold ownToks; rw [bigSep_univ_sum, sep_copies]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-! ## The semaphores -/

theorem own_eq (c : Dev nD) : (Pipeline.ownSems0 (Ix := Unit) (Name := ℕ) (U := UU) (Lvl := ℕ) (Val := Elt F) (τ := τ) semOf c : sProp 𝕄)
    = bigSep Finset.univ fun x : KS => semVal (cellAt c (some x)) 0 := by
  unfold Pipeline.ownSems0
  exact bigSep_congr fun x _ => by rw [cellAt_some]
theorem unscoped_eq (c : Dev nD) : (unscopedSems0 c : sProp 𝕄) = semVal (barCell c) 0 := by
  unfold unscopedSems0; rw [bigSep_eq_bigSepL_of_eq [SemLoc.reg barS] (by decide) (by decide)]; rfl

theorem sems_all (c : Dev nD) :
    iprop(Pipeline.ownSems0 (Ix := Unit) (Name := ℕ) (U := UU) (Lvl := ℕ) (Val := Elt F) (τ := τ) semOf c ∗ unscopedSems0 c)
      ⊢ (bigSep Finset.univ fun x : KK => semVal (cellAt c x) 0 : sProp 𝕄) := by
  rw [own_eq, unscoped_eq, sep_cells]
  iintro ⟨HS, HB⟩
  isplitl [HB]; · iexact HB
  iexact HS

theorem open_cells (c : Dev nD) :
    iprop((bigSep Finset.univ fun x : KK => semVal (cellAt c x) 0) ∗ bigSep Finset.univ fun x : KK => roundState ER (sched m) (cellAt c x) 0)
      ⊢ (|={Set.univ}=> bigSep Finset.univ fun x : KK => iprop(∃ κ : ℕ, cellInv ER (sched m) κ (cellAt c x)) : sProp 𝕄) := by
  rw [← bigSep_sep']
  exact (bigSep_mono fun x _ => (Rounds.body_intro ER (sched m) (cellAt c x)).trans inv_alloc).trans (bigSep_fupd _ _)

theorem alloc_core (c : Dev nD) :
    iprop(Pipeline.ownSems0 (Ix := Unit) (Name := ℕ) (U := UU) (Lvl := ℕ) (Val := Elt F) (τ := τ) semOf c ∗ unscopedSems0 c ∗ dealt m c)
      ⊢ |={Set.univ}=> iprop((bigSep Finset.univ fun x : KK => iprop(∃ κ : ℕ, cellInv ER (sched m) κ (cellAt c x)))
          ∗ (bigSep Finset.univ fun x : KK => iprop(atPos ER (cellAt c x) 0 ∅ 0 ∗ reached ER (cellAt c x) 0)) ∗ ownToks c) := by
  unfold dealt
  iintro ⟨Hos, Hus, Hst, Hat, Htok⟩
  ihave Hv := (sems_all (F := F) c) $$ [Hos Hus]
  · isplitl [Hos] <;> iassumption
  imod (open_cells m c) $$ [Hv Hst] with Hinv
  · isplitl [Hv] <;> iassumption
  imodintro
  isplitl [Hinv]; · iexact Hinv
  isplitl [Hat]; · iexact Hat
  iexact Htok

/-! ## The exchange of tokens -/

/-- A device and a direction, to the device in that direction and the direction; and to the device and the direction back. -/
def along : Dev nD × Fin 3 ≃ Dev nD × Fin 3 where
  toFun p := (pr p.1 p.2, p.2)
  invFun p := (pr p.1 p.2.rev, p.2)
  left_inv p := by revert p; decide
  right_inv p := by revert p; decide
def across : Dev nD × Fin 3 ≃ Dev nD × Fin 3 where
  toFun p := (pr p.1 p.2, p.2.rev)
  invFun p := (pr p.1 p.2, p.2.rev)
  left_inv p := by revert p; decide
  right_inv p := by revert p; decide

theorem sep_along (Φ : Dev nD → Fin 3 → sProp 𝕄) : (bigSep Finset.univ fun c : Dev nD => bigSep Finset.univ fun e : Fin 3 => Φ c e)
    = bigSep Finset.univ fun c : Dev nD => bigSep Finset.univ fun e : Fin 3 => Φ (pr c e) e := by
  rw [← bigSep_univ_prod (fun p : Dev nD × Fin 3 => Φ p.1 p.2), bigSep_univ_equiv along, bigSep_univ_prod]; rfl
theorem sep_across (Φ : Dev nD → Fin 3 → sProp 𝕄) : (bigSep Finset.univ fun c : Dev nD => bigSep Finset.univ fun e : Fin 3 => Φ c e)
    = bigSep Finset.univ fun c : Dev nD => bigSep Finset.univ fun e : Fin 3 => Φ (pr c e) e.rev := by
  rw [← bigSep_univ_prod (fun p : Dev nD × Fin 3 => Φ p.1 p.2), bigSep_univ_equiv across, bigSep_univ_prod]; rfl

theorem exchange : (bigSep Finset.univ fun c : Dev nD => (ownToks c : sProp 𝕄)) = bigSep Finset.univ fun c : Dev nD => payToks c := by
  unfold ownToks payToks
  rw [bigSep_sep', bigSep_sep', bigSep_sep', bigSep_sep', sep_along,
    bigSep_univ_comm (fun (c : Dev nD) (k : Fin 8) => bigSep Finset.univ fun e : Fin 3 => (dutyTok ER (recvCell c k e) 0 0 : sProp 𝕄)),
    bigSep_univ_comm (fun (c : Dev nD) (k : Fin 8) => bigSep Finset.univ fun e : Fin 3 => (dutyTok ER (recvCell (pr c e) k e.rev) 0 0 : sProp 𝕄)),
    bigSep_congr (s := Finset.univ) fun (k : Fin 8) _ => sep_across fun (c : Dev nD) e => (dutyTok ER (recvCell c k e) 0 0 : sProp 𝕄)]

/-! ## What a device starts with -/

/-- A lane of a row, the credit of the incoming copy apart. -/
def preLane (c : Dev nD) (k : Fin 8) (e : Fin 3) : sProp 𝕄 :=
  iprop(dutyTok ER (sendCell c k e) 0 0 ∗ dutyTok ER (recvCell (pr c e) k e.rev) 0 0
    ∗ atPos ER (sendCell c k e) 0 ∅ 0 ∗ atPos ER (recvCell c k e) 0 ∅ 0)
def linear (c : Dev nD) : sProp 𝕄 :=
  iprop(atPos ER (barCell c) 0 ∅ 0 ∗ (bigSep Finset.univ fun e : Fin 3 => dutyTok ER (barCell (pr c e)) 0 e)
    ∗ bigSep Finset.univ fun k : Fin 8 => bigSep Finset.univ fun e : Fin 3 => preLane c k e)
/-- What device `c` holds once the devices have exchanged tokens. -/
def ready (c : Dev nD) : sProp 𝕄 := iprop((∃ K, records m K) ∗ linear c)

theorem linear_intro (c : Dev nD) : iprop((bigSep Finset.univ fun x : KK => (atPos ER (cellAt c x) 0 ∅ 0 : sProp 𝕄)) ∗ payToks c) ⊢ linear c := by
  unfold payToks linear preLane
  rw [sep_cells, sep_copies]
  simp only [bigSep_sep']
  iintro ⟨⟨HaB, HaS, HaV⟩, HtB, HtS, HtV⟩
  isplitl [HaB]; · iexact HaB
  isplitl [HtB]; · iexact HtB
  isplitl [HtS]; · iexact HtS
  isplitl [HtV]; · iexact HtV
  isplitl [HaS]; · iexact HaS
  iexact HaV

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ready_intro (K : Dev nD × KK → ℕ) (c : Dev nD) : iprop(records m K ∗ linear c) ⊢ ready m c := by
  unfold ready
  iintro ⟨HR, HL⟩
  isplitl [HR]; · iexists K; iexact HR
  iexact HL

theorem regroup :
    (bigSep Finset.univ fun c : Dev nD => iprop((bigSep Finset.univ fun x : KK => iprop(∃ κ : ℕ, cellInv ER (sched m) κ (cellAt c x)))
          ∗ (bigSep Finset.univ fun x : KK => iprop(atPos ER (cellAt c x) 0 ∅ 0 ∗ reached ER (cellAt c x) 0)) ∗ ownToks c) : sProp 𝕄)
      ⊢ bigSep Finset.univ (ready m) := by
  rw [bigSep_sep', bigSep_sep', ← bigSep_univ_prod (fun p : Dev nD × KK => iprop(∃ κ : ℕ, cellInv ER (sched m) κ (cellAt p.1 p.2))),
    bigSep_congr (s := Finset.univ) (fun (c : Dev nD) _ => bigSep_sep' Finset.univ (fun x : KK => (atPos ER (cellAt c x) 0 ∅ 0 : sProp 𝕄)) (fun x => reached ER (cellAt c x) 0)),
    bigSep_sep', ← bigSep_univ_prod (fun p : Dev nD × KK => (reached ER (cellAt p.1 p.2) 0 : sProp 𝕄)), exchange]
  iintro ⟨HI, ⟨Hat, #HR⟩, Htok⟩
  ihave HK := (BI.bigSep_exists_pi Finset.univ (fun (p : Dev nD × KK) (κ : ℕ) => (cellInv ER (sched m) κ (cellAt p.1 p.2) : sProp 𝕄))) $$ HI
  icases HK with ⟨%K, #HI⟩
  iapply (with_persistent (R := records m K) fun c _ => ready_intro m K c)
  isplitr
  · unfold records
    iapply (Entails.of_eq (bigSep_sep' Finset.univ (fun p : Dev nD × KK => (cellInv ER (sched m) (K p) (cellAt p.1 p.2) : sProp 𝕄)) fun p => reached ER (cellAt p.1 p.2) 0).symm)
    isplitl; · iexact HI
    iexact HR
  · iapply ((Entails.of_eq (bigSep_sep' Finset.univ (fun c : Dev nD => bigSep Finset.univ fun x : KK => (atPos ER (cellAt c x) 0 ∅ 0 : sProp 𝕄)) payToks).symm).trans
      (bigSep_mono fun c _ => linear_intro c))
    isplitl [Hat]; · iexact Hat
    iexact Htok

theorem glob : (bigSep Finset.univ fun c => iprop(Pipeline.ownSems0 (Ix := Unit) (Name := ℕ) (U := UU) (Lvl := ℕ) (Val := Elt F) (τ := τ) semOf c ∗ unscopedSems0 c ∗ dealt m c) : sProp 𝕄)
    ⊢ |={Set.univ}=> bigSep Finset.univ (ready m) :=
  ((bigSep_mono fun c _ => alloc_core m c).trans (bigSep_fupd _ _)).trans (BI.fupd_mono (regroup m))

/-! ## The launch credit -/

theorem bar_ne_recv (c d : Dev nD) (k : Fin 8) (e : Fin 3) : barCell c ≠ recvCell d k e := fun h => by cases congrArg Prod.snd h
theorem bar_iff (a b : Dev nD) : barCell a = barCell b ↔ a = b := ⟨fun h => congrArg (fun g : GSem nD τ sig => g.1.1) h, fun h => h ▸ rfl⟩
theorem recv_iff (a b : Dev nD) (k k' : Fin 8) (e e' : Fin 3) : recvCell a k e = recvCell b k' e' ↔ a = b ∧ k = k' ∧ e = e' := by
  constructor
  · intro h
    have h' := cell_injective (a₁ := (a, some (true, k, e))) (a₂ := (b, some (true, k', e'))) h
    simp only [Prod.mk.injEq, Option.some.injEq, true_and] at h'
    exact h'
  · rintro ⟨rfl, rfl, rfl⟩; rfl

theorem owedFrom_bar (d c : Dev nD) (t : ℕ) : owedFrom d t (barCell c) () = 0 := by
  by_contra h
  obtain ⟨k, e, -, h'⟩ := owedFrom_pos (Nat.pos_of_ne_zero h)
  exact bar_ne_recv _ _ _ _ h'

theorem owedAll_bar (d c : Dev nD) : owedAll d (barCell c) () = (if c = pr d 2 then 1 else 0) + (if c = pr d 1 then 1 else 0) + (if c = pr d 0 then 1 else 0) := by
  unfold owedAll
  simp only [Pi.add_apply, Finsupp.add_apply, owedFrom_bar, tallyAt_apply, bar_iff, and_true, Nat.zero_add]

theorem owedFrom_recv (d c : Dev nD) (k : Fin 8) (e : Fin 3) :
    owedFrom d 0 (recvCell c k e) () = N * ∑ k' : Fin 8, ((if c = pr d 2 ∧ k = k' ∧ e = Fin.rev 2 then 1 else 0)
      + (if c = pr d 1 ∧ k = k' ∧ e = Fin.rev 1 then 1 else 0) + (if c = pr d 0 ∧ k = k' ∧ e = Fin.rev 0 then 1 else 0)) := by
  unfold owedFrom
  rw [Finset.filter_true_of_mem (fun k _ => Nat.zero_le _), Finset.sum_apply, Finsupp.finset_sum_apply, Finset.mul_sum]
  refine Finset.sum_congr rfl fun k' _ => ?_
  simp only [Pi.add_apply, Finsupp.add_apply, tallyAt_apply, recv_iff, and_true, Nat.mul_add, mul_ite, Nat.mul_one, Nat.mul_zero]

theorem owedAll_recv (d c : Dev nD) (k : Fin 8) (e : Fin 3) : owedAll d (recvCell c k e) () = owedFrom d 0 (recvCell c k e) () := by
  unfold owedAll
  simp only [Pi.add_apply, Finsupp.add_apply]
  rw [tallyAt_ne_cell (bar_ne_recv _ _ _ _).symm, tallyAt_ne_cell (bar_ne_recv _ _ _ _).symm, tallyAt_ne_cell (bar_ne_recv _ _ _ _).symm]
  rfl

theorem launch_bar (c : Dev nD) :
    tallyOn (barCell c) (launchCredit (Pipeline.owing owedAll) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owedAll_bar d c]
  revert c; decide

theorem launch_recv (c : Dev nD) (k : Fin 8) (e : Fin 3) :
    tallyOn (recvCell c k e) (launchCredit (Pipeline.owing owedAll) 0 (recvCell c k e)) = (tallyAt (recvCell c k e) () N : CellTallies nD τ sig Unit) := by
  unfold tallyAt; refine congrArg _ (Finsupp.ext fun u => ?_); cases u
  rw [Pipeline.launchCredit_owing, Finsupp.single_eq_same, Finset.sum_congr rfl fun d _ => (owedAll_recv d c k e).trans (owedFrom_recv d c k e), ← Finset.mul_sum]
  refine (congrArg (N * ·) (?_ : _ = 1)).trans (Nat.mul_one N)
  revert c k e; decide +kernel

theorem credits (c : Dev nD) : (Pipeline.launchCred owedAll c : sProp 𝕄)
    ⊢ iprop(cred (tallyAt (barCell c) () 3) ∗ bigSep Finset.univ fun k : Fin 8 => bigSep Finset.univ fun e : Fin 3 => cred (tallyAt (recvCell c k e) () N)) := by
  unfold Pipeline.launchCred
  rw [bigSep_univ_at _ (SemLoc.reg barS), launch_bar]
  refine sep_mono_right ?_
  have hinj : Function.Injective (fun p : Fin 8 × Fin 3 => semOf (true, p.1, p.2)) := fun p q h => by
    have h' := ownSemFacts.inj h
    exact congrArg Prod.snd h'
  refine (bigSep_subset (t := Finset.univ.map ⟨_, hinj⟩) fun s hs => ?_).trans ?_
  · obtain ⟨p, -, rfl⟩ := Finset.mem_map.mp hs
    exact Finset.mem_erase.mpr ⟨fun h => (by cases h), Finset.mem_univ _⟩
  · rw [bigSep_map, bigSep_univ_prod]
    exact bigSep_mono fun k _ => bigSep_mono fun e _ => Entails.of_eq (congrArg cred (launch_recv c k e))

/-! ## The ends of the run -/

theorem lane_intro (c : Dev nD) (k : Fin 8) (e : Fin 3) : iprop(preLane c k e ∗ cred (tallyAt (recvCell c k e) () N)) ⊢ (lane c k e : sProp 𝕄) := by
  unfold preLane lane
  iintro ⟨⟨H1, H2, H3, H4⟩, H5⟩
  isplitl [H1]; · iexact H1
  isplitl [H2]; · iexact H2
  isplitl [H3]; · iexact H3
  isplitl [H4]; · iexact H4
  iexact H5

theorem lanes_intro (c : Dev nD) : iprop((bigSep Finset.univ fun k : Fin 8 => bigSep Finset.univ fun e : Fin 3 => preLane c k e)
      ∗ bigSep Finset.univ fun k : Fin 8 => bigSep Finset.univ fun e : Fin 3 => cred (tallyAt (recvCell c k e) () N))
    ⊢ (bigSep Finset.univ fun k : Fin 8 => bigSep Finset.univ fun e : Fin 3 => lane c k e : sProp 𝕄) := by
  rw [← bigSep_sep']
  refine bigSep_mono fun k _ => ?_
  rw [← bigSep_sep']
  exact bigSep_mono fun e _ => lane_intro c k e

theorem start_intro (c : Dev nD) :
    iprop(Pipeline.unscopedRestP Pipeline.Prefetch.none cfg0.spec c (fun b => m ((c : Thread nD τ).loc b)) ∗ levAts L lv
        ∗ Pipeline.launchCred owedAll c ∗ prngReg c (ρ c) ∗ ready m c)
      ⊢ |={Set.univ}=> iprop(start m c ∗ emp) := by
  iintro ⟨-, Hlev, Hcr, -, HG⟩
  ihave Hc := (credits (F := F) c) $$ Hcr
  icases Hc with ⟨HB, HN⟩
  imodintro
  unfold start ready linear
  icases HG with ⟨HK, HaB, HtB, HL⟩
  isplitl
  · isplitl [HK]; · iexact HK
    isplitl [Hlev]; · iexact Hlev
    isplitl [HaB]; · iexact HaB
    isplitl [HB]; · iexact HB
    isplitl [HtB]; · iexact HtB
    iapply (lanes_intro c)
    isplitl [HL]; · iexact HL
    iexact HN
  · iempintro

theorem first_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = inv₀ m c from rfl, scopedRest0_eq]
  unfold inv₀
  iintro ⟨Hs, -, H⟩
  isplitl [Hs]; · iexact Hs
  iexact H

/-- The buffer of received statistics is its slots. -/
theorem slots_whole (c : Dev nD) (f : Buf (Elt F) ((c : Thread nD τ).loc cc0_scratch2)) :
    (((c : Thread nD τ).loc cc0_scratch2) ↦{fullShare} f : sProp 𝕄)
      = bigSep Finset.univ fun k : Fin 8 => bigSep Finset.univ fun e : Fin 3 => slotPts c k e f := by
  rw [← bigSep_univ_prod (fun p : Fin 8 × Fin 3 => slotPts c p.1 p.2 f)]
  have h : (((c : Thread nD τ).loc cc0_scratch2) ↦[Finset.univ.biUnion fun p : Fin 8 × Fin 3 => slotSet p.1 p.2]{fullShare} f : sProp 𝕄) = _ :=
    pointsTo_biUnion _ _ (fun p _ p' _ h => slot_disjoint p p' h)
  rw [slots_cover] at h
  exact h

theorem done_all (c : Dev nD) : (bigSep Finset.univ fun k : Fin 8 => rowSt m c 11 k)
    ⊢ iprop((((c : Thread nD τ).loc cc0_scratch1) ↦{fullShare} (LB m c)) ∗ (((c : Thread nD τ).loc cc0_scratch2) ↦{fullShare} (RB m c))
      ∗ bigSep Finset.univ fun x : KS => semVal (cellAt c (some x)) 0) := by
  rw [rows_split, slots_whole, sep_copies, bigSep_congr (s := Finset.univ) fun (k : Fin 8) _ => rowSt_done m c 11 k (by have := k.isLt; omega)]
  unfold done landed
  simp only [bigSep_sep']
  iintro ⟨H1, H2, H3, H4⟩
  isplitl [H1]; · iexact H1
  isplitl [H2]; · iexact H2
  isplitl [H3]; · iexact H3
  iexact H4

theorem last_exit (c : Dev nD) :
    (dats m ρ 0 c).Φ (Fin.last cfg0.N) ⊢ iprop(unscopedSems0 c ∗ Pipeline.ownSems0 semOf c ∗ Pipeline.scopedRest cfg0.spec c) := by
  rw [inv_later m ρ c (Fin.last cfg0.N) (by show cfg0.N ≠ 0; decide), scopedRest0_eq, own_eq, unscoped_eq,
    show (Fin.last cfg0.N).val = 11 from N_0]
  unfold inv₁ savedPts modPts
  iintro ⟨-, -, HzB, Hrows, ⟨%fs, -, Hs⟩, ⟨%fg, -, Hg⟩⟩
  ihave Hd := (done_all m c) $$ Hrows
  icases Hd with ⟨Hl, Hr, Hz⟩
  isplitl [HzB]; · iexact HzB
  isplitl [Hz]; · iexact Hz
  isplitl [Hs]; · iexists fs; iexact Hs
  isplitl [Hl]; · iexists _; iexact Hl
  isplitl [Hr]; · iexists _; iexact Hr
  iexists fg; iexact Hg

theorem waits (c : Dev nD) : (levAts L lv : sProp 𝕄) ⊢ Pipeline.cellsWaits cfgs (dats m ρ) () 0 c :=
  Pipeline.cellsWaits_intro cfgs (dats m ρ) () 0 c fun w s t => by
    have hlv : lv ((c : Thread nD τ), .dma (((cfgs 0).win w).sem s)) () = 0 := by
      fin_cases w <;> fin_cases s <;> rfl
    obtain ⟨_ | n, hn⟩ := t
    · exact mayWait_all c _ hlv
    · exact mayWait_from c _ (n + 1) (by rw [hlv]; omega)

theorem share_eq (c : Dev nD) (w : Fin cfg0.W) : (dats m ρ 0 c).share w = fullShare := by unfold Dat.share; split <;> rfl

theorem owed_last (c : Dev nD) : (dats m ρ 0 c).owed (Fin.last cfg0.N) = 0 := by
  rw [owed_later m ρ c (Fin.last cfg0.N) (by show cfg0.N ≠ 0; decide)]
  exact owedFrom_end c _ (by show 8 ≤ cfg0.N; decide)

/-! ## The run -/

/-- What each array holds at the end. -/
def finalA (c : Dev nD) (w : Fin cfg0.W) : Buf (Elt F) ((cfg0.win w).arr.view.loc (c : Thread nD τ)) := (dats m ρ 0 c).arrAt w cfg0.N

set_option maxRecDepth 8000 in
/-- On the mesh of four devices, from any memory with all semaphores at zero, every run of the program ends, each
    device's arrays are as the pipeline's data say, and every semaphore is at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => body_obligation m ρ c) (hne := fun w => by fin_cases w <;> exact Nat.succ_pos _) (harr := arr_whole0) (hstage := stage_whole0) (hshare := share_eq m ρ)
    (hdistinct := winFacts0.arr_inj)
    (O₀ := owedAll) (howed₀ := fun _ => rfl) (howedN := owed_last m ρ)
    (L := L) (lv := lv) (hL := L_of_ne) (hwaits := waits m ρ)
    (G := dealt m) (G' := ready m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The four argument arrays are as launched. -/
theorem final_in (c : Dev nD) : finalA m ρ c 0 = m ((c : Thread nD τ).loc main_arg0) ∧ finalA m ρ c 1 = m ((c : Thread nD τ).loc main_arg1)
    ∧ finalA m ρ c 2 = m ((c : Thread nD τ).loc main_arg2) ∧ finalA m ρ c 3 = m ((c : Thread nD τ).loc main_arg3) :=
  ⟨(dats m ρ 0 c).arrAt_in 0 rfl _, (dats m ρ 0 c).arrAt_in 1 rfl _, (dats m ρ 0 c).arrAt_in 2 rfl _, (dats m ρ 0 c).arrAt_in 3 rfl _⟩

end Cert.KernelIdeal.Stats
-- ==== Proof.Frames.lean ====
/-
  The frames: each of the three programs runs to the end and leaves its arguments as they were and its semaphores at
  zero. For the kernel, at either reading of the floats, this is the launch theorem (Proof/Kernel/Launch.lean,
  Proof/KernelIdeal/Launch.lean) with the output array's contents forgotten; for the reference it is its run.
-/
module

public import proofs.«01_k».proof.Defs
public import proofs.«01_k».proof.Proof.Kernel.Launch
public import proofs.«01_k».proof.Proof.KernelIdeal.Launch
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts

theorem frame_kernel : quiescent_Kernel := fun m g _ =>
  (θ_run _ _ _).mono (fun _ h =>
    ⟨fun c =>
      ⟨(h.1 c 0).trans (Cert.Kernel.Stats.final_in m g c).1,
        (h.1 c 1).trans (Cert.Kernel.Stats.final_in m g c).2.1,
        (h.1 c 2).trans (Cert.Kernel.Stats.final_in m g c).2.2.1,
        (h.1 c 3).trans (Cert.Kernel.Stats.final_in m g c).2.2.2⟩, h.2⟩)
    (Cert.Kernel.Stats.run_main m g)

theorem frame_ideal : quiescent_KernelIdeal := fun m g _ =>
  (θ_run _ _ _).mono (fun _ h =>
    ⟨fun c =>
      ⟨(h.1 c 0).trans (Cert.KernelIdeal.Stats.final_in m g c).1,
        (h.1 c 1).trans (Cert.KernelIdeal.Stats.final_in m g c).2.1,
        (h.1 c 2).trans (Cert.KernelIdeal.Stats.final_in m g c).2.2.1,
        (h.1 c 3).trans (Cert.KernelIdeal.Stats.final_in m g c).2.2.2⟩, h.2⟩)
    (Cert.KernelIdeal.Stats.run_main m g)

theorem frame_reference : quiescent_ReferenceIdeal := fun m g _ =>
  (θ_run _ _ _).mono (fun r h => ⟨fun c => (h c).2, sem_eq_zero_of_no_sems (by decide) r.2⟩)
    (Cert.ReferenceIdeal.Value.run m g)

end Cert.Proof
-- ==== Proof.Value.Norm.lean ====
/-
  The normalization, as mathematics. Over 2048 finite channels, the kernel's form, from the sum and the sum of squares
  with one reciprocal square root, is the reference's form, from the mean and the mean squared deviation with a division
  by a square root. Both are written here over the extended reals, with the constants the programs print.
-/
module

public import Idealize.ShloMosaic.PureOps.Ideal.Laws

@[expose] public section

noncomputable section

namespace Cert.Value

open Idealize.ShloMosaic

/-! ## The constants -/

/-- The number of channels, as the reference prints it. -/
abbrev count : EReal := Ideal.ofBits .f32 0x45000000#32
/-- Its reciprocal, as the kernel prints it. -/
abbrev recip : EReal := Ideal.ofBits .f32 0x3A000000#32
/-- What both programs add to the variance. -/
abbrev small : EReal := Ideal.ofBits .f32 0x3727C5AC#32

/-- The real number `small` is. -/
def ε : ℝ := 10995116 * (2 : ℝ) ^ (-40 : ℤ)

theorem ε_pos : 0 < ε := by unfold ε; positivity

theorem count_eq : count = ((2048 : ℝ) : EReal) := by
  rw [show (2048 : ℝ) = 8388608 * (2 : ℝ) ^ (-12 : ℤ) by norm_num]
  simp [count, Ideal.ofBits, Ideal.ieee]

theorem recip_eq : recip = ((2048⁻¹ : ℝ) : EReal) := by
  rw [show (2048⁻¹ : ℝ) = 8388608 * (2 : ℝ) ^ (-34 : ℤ) by norm_num]
  simp [recip, Ideal.ofBits, Ideal.ieee]

theorem small_eq : small = (ε : EReal) := by
  simp [small, Ideal.ofBits, Ideal.ieee, ε]

theorem infinity_eq : Ideal.ofBits .f32 0x7F800000#32 = ⊤ := by
  simp [Ideal.ofBits, Ideal.ieee]

/-! ## The two forms -/

/-- The kernel's: `x` against the sum `S` and the sum of squares `Q` of its row. -/
def byMoments (x S Q : EReal) : EReal :=
  (x - S * recip) * Ideal.rsqrt (Q * recip - S * recip * (S * recip) + small)

/-- The reference's: `x` against its row `X`. -/
def byDeviations (x : EReal) (X : Fin 2048 → EReal) : EReal :=
  Ideal.div (x - Ideal.div (∑ k, X k) count)
    (Ideal.sqrt (Ideal.div (∑ k, (X k - Ideal.div (∑ k, X k) count) * (X k - Ideal.div (∑ k, X k) count)) count + small))

theorem coe_sum {n : ℕ} (y : Fin n → ℝ) : (((∑ k, y k : ℝ)) : EReal) = ∑ k, (y k : EReal) := by
  induction n with
  | zero => simp
  | succ n ih => rw [Fin.sum_univ_succ, Fin.sum_univ_succ, EReal.coe_add, ih]

/-- The mean squared deviation is the mean of the squares less the square of the mean. -/
theorem deviations (y : Fin 2048 → ℝ) :
    (∑ k, (y k - (∑ k, y k) / 2048) * (y k - (∑ k, y k) / 2048)) / 2048
      = (∑ k, y k * y k) * 2048⁻¹ - (∑ k, y k) * 2048⁻¹ * ((∑ k, y k) * 2048⁻¹) := by
  have h : ∀ μ : ℝ, ∑ k, (y k - μ) * (y k - μ) = (∑ k, y k * y k) - 2 * μ * (∑ k, y k) + 2048 * (μ * μ) := fun μ => by
    rw [Finset.mul_sum, ← Finset.sum_sub_distrib, show (2048 : ℝ) * (μ * μ) = ∑ _k : Fin 2048, μ * μ by simp,
      ← Finset.sum_add_distrib]
    exact Finset.sum_congr rfl fun k _ => by ring
  rw [h]
  ring

theorem div_count (x : ℝ) : Ideal.div (x : EReal) count = ((x / 2048 : ℝ) : EReal) := by
  rw [count_eq]
  unfold Ideal.div
  rw [if_neg (by norm_cast), ← EReal.coe_inv, ← EReal.coe_mul, div_eq_mul_inv]

theorem forms_agree_real (x : ℝ) (y : Fin 2048 → ℝ) :
    byMoments x (∑ k, (y k : EReal)) (∑ k, (y k : EReal) * (y k : EReal)) = byDeviations x fun k => (y k : EReal) := by
  unfold byMoments byDeviations
  simp only [← EReal.coe_mul, ← coe_sum, div_count, recip_eq, small_eq, ← EReal.coe_sub, ← EReal.coe_add]
  rw [deviations]
  have hv : 0 ≤ (∑ k, y k * y k) * 2048⁻¹ - (∑ k, y k) * 2048⁻¹ * ((∑ k, y k) * 2048⁻¹) := by
    rw [← deviations]
    exact div_nonneg (Finset.sum_nonneg fun k _ => mul_self_nonneg _) (by norm_num)
  generalize (∑ k, y k * y k) * 2048⁻¹ - (∑ k, y k) * 2048⁻¹ * ((∑ k, y k) * 2048⁻¹) = v at hv ⊢
  have hp : 0 < v + ε := add_pos_of_nonneg_of_pos hv ε_pos
  show _ * (if v + ε < 0 then (⊥ : EReal) else if v + ε = 0 then ⊤ else (((Real.sqrt (v + ε))⁻¹ : ℝ) : EReal))
    = Ideal.div _ (if v + ε < 0 then (⊥ : EReal) else ((Real.sqrt (v + ε) : ℝ) : EReal))
  rw [if_neg hp.le.not_gt, if_neg hp.ne', if_neg hp.le.not_gt]
  unfold Ideal.div
  rw [if_neg (by exact_mod_cast (Real.sqrt_pos.2 hp).ne'), ← EReal.coe_inv, div_eq_mul_inv]

/-- A value whose magnitude is below infinity is a real number. -/
theorem real_of_finite {x : EReal} (h : max x (-x) < ⊤) : ∃ r : ℝ, x = r := by
  induction x with
  | bot => simp at h
  | top => simp at h
  | coe r => exact ⟨r, rfl⟩

/-- On finite values the two forms agree. -/
theorem forms_agree (x : EReal) (X : Fin 2048 → EReal) (hx : max x (-x) < ⊤) (hX : ∀ k, max (X k) (-X k) < ⊤) :
    byMoments x (∑ k, X k) (∑ k, X k * X k) = byDeviations x X := by
  obtain ⟨r, rfl⟩ := real_of_finite hx
  choose y hy using fun k => real_of_finite (hX k)
  obtain rfl : X = fun k => (y k : EReal) := funext hy
  exact forms_agree_real r y

/-! ## A row's sum from four devices -/

/-- Channel `k` of device `d`'s share. -/
def channel (d : Fin 4) (k : Fin 512) : Fin 2048 := ⟨d.val * 512 + k.val, by omega⟩

/-- The sums of the four shares, taken from any device on around the ring, add up to the sum over all channels. -/
theorem ring_sum (X : Fin 2048 → EReal) (c : Fin 4) :
    (∑ k, X (channel c k)) + (∑ k, X (channel (c + 1) k)) + (∑ k, X (channel (c + 2) k)) + (∑ k, X (channel (c + 3) k))
      = ∑ k, X k := by
  have h : ∑ k, X k = ∑ d : Fin 4, ∑ k, X (channel d k) := by
    rw [← Fintype.sum_prod_type' fun d k => X (channel d k)]
    refine (Equiv.sum_comp (finProdFinEquiv : Fin 4 × Fin 512 ≃ Fin (4 * 512)) X).symm.trans
      (Finset.sum_congr rfl fun p _ => congrArg X (Fin.ext ?_))
    show p.2.val + 512 * p.1.val = p.1.val * 512 + p.2.val
    omega
  rw [h, Fin.sum_univ_four]
  fin_cases c
  · rfl
  · show ∑ k, X (channel 1 k) + ∑ k, X (channel 2 k) + ∑ k, X (channel 3 k) + ∑ k, X (channel 0 k) = _
    ac_rfl
  · show ∑ k, X (channel 2 k) + ∑ k, X (channel 3 k) + ∑ k, X (channel 0 k) + ∑ k, X (channel 1 k) = _
    ac_rfl
  · show ∑ k, X (channel 3 k) + ∑ k, X (channel 0 k) + ∑ k, X (channel 1 k) + ∑ k, X (channel 2 k) = _
    ac_rfl

end Cert.Value

end
-- ==== Proof.Value.Reference.lean ====
/-
  The reference's result at an index: `byDeviations` of the element against its row, times one plus the scale's dot
  product, plus the shift's.
-/
module

public import proofs.«01_k».proof.Proof.Gen.ReferenceIdeal.Read
public import proofs.«01_k».proof.Proof.Value.Norm

@[expose] public section

noncomputable section

namespace Cert.Value

open Idealize.ShloMosaic Idealize.ShloMosaic.ValueIdx Idealize.SL.Sem Cert.ReferenceIdeal Cert.ReferenceIdeal.Gen
  Cert.ReferenceIdeal.Read

attribute [local instance] Cert.ReferenceIdeal.Gen.facts

/-- The constant both programs add the scale to. -/
abbrev one : EReal := Ideal.ofBits .f32 0x3F800000#32

theorem idx2_eq {n0 n1 : ℕ} {i : (⟨2, ![n0, n1]⟩ : Shape).Idx} {a : Fin n0} {b : Fin n1} (h0 : i 0 = a) (h1 : i 1 = b) :
    i = ix2 a b := by
  subst h0 h1; exact eq_ix2 i

theorem idx3_eq {n0 n1 n2 : ℕ} {i : (⟨3, ![n0, n1, n2]⟩ : Shape).Idx} {a : Fin n0} {b : Fin n1} {c : Fin n2}
    (h0 : i 0 = a) (h1 : i 1 = b) (h2 : i 2 = c) : i = ix3 a b c := by
  subst h0 h1 h2; exact eq_ix3 i

section
variable (x0 : (⟨S2x4096x2048, .f32⟩ : BufTy).Contents (Elt Ideal)) (x1 : (⟨S2x128, .f32⟩ : BufTy).Contents (Elt Ideal))
  (x2 x3 : (⟨S128x2048, .f32⟩ : BufTy).Contents (Elt Ideal))
  (b : Fin 2) (s : Fin 4096) (n : Fin 2048) (z : Fin 1)

/-- The mean of a row. -/
abbrev meanOf (X : Fin 2048 → EReal) : EReal := Ideal.div (∑ k, X k) count

theorem mean_at : val_main_v3 (F := Ideal) x0 (ix3 b s z) = meanOf fun k => x0 (ix3 b s k) := by
  rw [val_main_v3_apply, val_main_v1_apply, val_main_v2_apply, val_main_v0_apply]
  show Ideal.div (Ideal.ofBits .f32 0x00000000#32 + _) count = _
  rw [Ideal.ofBits_zero_f32, zero_add]
  exact congrArg (Ideal.div · count) (Finset.sum_congr rfl fun k _ => congrArg x0 (idx3_eq rfl rfl rfl))

/-- The variance takes the mean again, by the same operations. -/
theorem mean_again : val_main_call0_v3 (F := Ideal) x0 = val_main_v3 (F := Ideal) x0 := rfl

theorem deviation_at : val_main_call0_v5 (F := Ideal) x0 (ix3 b s n)
    = x0 (ix3 b s n) - meanOf fun k => x0 (ix3 b s k) := by
  rw [val_main_call0_v5_apply, val_main_call0_v4_apply, mean_again,
    show idx_main_call0_v4 (ix3 b s n) = ix3 b s (0 : Fin 1) from idx3_eq rfl rfl rfl, mean_at]
  rfl

/-- What the sum of squares is divided by: the count less a zero correction. -/
theorem divisor_at (i : S_.Idx) : val_main_call0_v8 (F := Ideal) i = count := by
  rw [val_main_call0_v8_apply, val_main_call0_v7_apply]
  show count - (((0#32 : BitVec 32).toInt : ℝ) : EReal) = count
  simp

/-- The divisor is above zero, so the select takes the quotient. -/
theorem divisor_pos (i : S_.Idx) : val_main_call0_v13 (F := Ideal) i = 1#1 := by
  rw [val_main_call0_v13_apply, divisor_at]
  show Ideal.cmp .ogt count (Ideal.ofBits .f32 0x00000000#32) = 1#1
  rw [Ideal.ofBits_zero_f32, count_eq]
  simp [Ideal.cmp]

theorem squares_at : val_main_call0_v9 (F := Ideal) x0 (ix2 b s)
    = ∑ k, (x0 (ix3 b s k) - meanOf fun k => x0 (ix3 b s k)) * (x0 (ix3 b s k) - meanOf fun k => x0 (ix3 b s k)) := by
  rw [val_main_call0_v9_apply]
  show Ideal.ofBits .f32 0x00000000#32 + _ = _
  rw [Ideal.ofBits_zero_f32, zero_add]
  refine Finset.sum_congr rfl fun k _ => ?_
  rw [show idx_main_call0_v9 (ix2 b s) k = ix3 b s k from idx3_eq rfl rfl rfl, val_main_call0_v6_apply, deviation_at]
  rfl

theorem variance_at : val_main_v4 (F := Ideal) x0 (ix3 b s z)
    = Ideal.div (∑ k, (x0 (ix3 b s k) - meanOf fun k => x0 (ix3 b s k)) * (x0 (ix3 b s k) - meanOf fun k => x0 (ix3 b s k)))
        count := by
  unfold val_main_v4
  rw [select_apply, broadcastInDim_apply _ _ _ _ (fun a => a.elim0) (fun a => a.elim0), divisor_pos, select_one,
    val_main_call0_v12_apply, val_main_call0_v10_apply, val_main_call0_v11_apply, divisor_at,
    show idx_main_call0_v10 (ix3 b s z) = ix2 b s from idx2_eq rfl rfl, squares_at]
  rfl

theorem normalized_at : val_main_v11 (F := Ideal) x0 (ix3 b s n)
    = byDeviations (x0 (ix3 b s n)) fun k => x0 (ix3 b s k) := by
  rw [val_main_v11_apply, val_main_v6_apply, val_main_v5_apply, val_main_v10_apply, val_main_v9_apply, val_main_v8_apply,
    show idx_main_v5 (ix3 b s n) = ix3 b s (0 : Fin 1) from idx3_eq rfl rfl rfl,
    show idx_main_v10 (ix3 b s n) = ix3 b s (0 : Fin 1) from idx3_eq rfl rfl rfl, mean_at, variance_at, val_main_v7_apply]
  rfl

theorem scale_at : val_main_v17 (F := Ideal) x1 x2 (ix3 b s n) = one + ∑ k, x1 (ix2 b k) * x2 (ix2 k n) := by
  rw [val_main_v17_apply, val_main_v16_apply, val_main_v15_apply, val_main_v14_apply, val_main_v12_apply]
  exact congrArg (one + ·) (Finset.sum_congr rfl fun k _ =>
    congrArg₂ (· * ·) (congrArg x1 (idx2_eq rfl rfl)) (congrArg x2 (idx2_eq rfl rfl)))

theorem shift_at : val_main_v20 (F := Ideal) x1 x3 (ix3 b s n) = ∑ k, x1 (ix2 b k) * x3 (ix2 k n) := by
  rw [val_main_v20_apply, val_main_v19_apply, val_main_v13_apply]
  exact Finset.sum_congr rfl fun k _ =>
    congrArg₂ (· * ·) (congrArg x1 (idx2_eq rfl rfl)) (congrArg x3 (idx2_eq rfl rfl))

/-- The reference's result at an index. -/
theorem reference_at : val_main_v21 (F := Ideal) x0 x1 x2 x3 (ix3 b s n)
    = byDeviations (x0 (ix3 b s n)) (fun k => x0 (ix3 b s k)) * (one + ∑ k, x1 (ix2 b k) * x2 (ix2 k n))
      + ∑ k, x1 (ix2 b k) * x3 (ix2 k n) := by
  rw [val_main_v21_apply, val_main_v18_apply, normalized_at, scale_at, shift_at]
  rfl

end

end Cert.Value

end
-- ==== Proof.Value.Payloads.lean ====
/-
  What the kernel computes from the values it loads, at an index: the row sums and the row sums of squares of a block, the
  two products with `t`, the total over the devices, and the output block.
-/
module

public import proofs.«01_k».proof.Proof.Gen.KernelIdeal.Skeleton
public import proofs.«01_k».proof.Proof.Value.Reference
public import Idealize.ShloMosaic.Lib.ValueLayout

@[expose] public section

noncomputable section

namespace Cert.Value

open Idealize.ShloMosaic Idealize.ShloMosaic.ValueIdx Idealize.SL.Sem Cert.KernelIdeal Cert.KernelIdeal.Gen

attribute [local instance] Cert.KernelIdeal.Gen.facts

/-! ## Casts and broadcasts between shapes that differ in unit axes -/

section
variable {α : Type} {a b c : ℕ}

theorem cast_11ab_ab (x : (⟨4, ![1, 1, a, b]⟩ : Shape).Idx → α) (h : (⟨4, ![1, 1, a, b]⟩ : Shape).ShapeCasts ⟨2, ![a, b]⟩)
    (i : Fin a) (j : Fin b) : shapeCast ⟨2, ![a, b]⟩ x h (ix2 i j) = x (ix4 (0 : Fin 1) (0 : Fin 1) i j) :=
  shapeCast_apply x h _ _ (by
    rw [Shape.rowMajor_val_four, Shape.rowMajor_val_two]
    show (((0 * 1 + 0) * a + i.val) * b + j.val) = i.val * b + j.val
    rw [show (0 * 1 + 0) * a = 0 by omega, Nat.zero_add])

theorem cast_ab_ab1 (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    rw [Shape.rowMajor_val_three, Shape.rowMajor_val_two]
    show i.val * b + j.val = (i.val * b + j.val) * 1 + u.val
    omega)

theorem cast_ab_a1b (x : (⟨2, ![a, b]⟩ : Shape).Idx → α) (h : (⟨2, ![a, b]⟩ : Shape).ShapeCasts ⟨3, ![a, 1, b]⟩)
    (i : Fin a) (u : Fin 1) (j : Fin b) : shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

theorem stretch_last (x : (⟨3, ![a, b, 1]⟩ : Shape).Idx → α) (h : (⟨3, ![a, b, 1]⟩ : Shape).Broadcasts ⟨3, ![a, b, c]⟩)
    (i : Fin a) (j : Fin b) (k : Fin c) : broadcastTo ⟨3, ![a, b, c]⟩ x h (ix3 i j k) = x (ix3 i j (0 : Fin 1)) :=
  broadcastTo_apply x h _ _ fun ax => by
    match ax with
    | ⟨0, _⟩ => show i.val = if a = 1 then 0 else i.val; split <;> omega
    | ⟨1, _⟩ => show j.val = if b = 1 then 0 else j.val; split <;> omega
    | ⟨2, _⟩ => rfl

theorem stretch_middle (x : (⟨3, ![a, 1, c]⟩ : Shape).Idx → α) (h : (⟨3, ![a, 1, c]⟩ : Shape).Broadcasts ⟨3, ![a, b, c]⟩)
    (i : Fin a) (j : Fin b) (k : Fin c) : broadcastTo ⟨3, ![a, b, c]⟩ x h (ix3 i j k) = x (ix3 i (0 : Fin 1) k) :=
  broadcastTo_apply x h _ _ fun ax => by
    match ax with
    | ⟨0, _⟩ => show i.val = if a = 1 then 0 else i.val; split <;> omega
    | ⟨1, _⟩ => rfl
    | ⟨2, _⟩ => show k.val = if c = 1 then 0 else k.val; split <;> omega

end

/-! ## The sums of a block -/

section
variable (x : Vec Ideal S2x512x512 .f32) (b : Fin 2) (s : Fin 512) (u : Fin 1)

/-- The rows of the sums and of the sums of squares among the four rows. -/
def sumRow (b : Fin 2) : Fin 4 := ⟨b.val, by omega⟩
def squareRow (b : Fin 2) : Fin 4 := ⟨2 + b.val, by omega⟩

theorem self_cast : k0_pay3 (F := Ideal) x = x := shapeCast_self x _

theorem lift_at (k : Fin 512) :
    (reduces_S2x512x512_S2x512 : S2x512x512.Reduces [2] S2x512).lift (ix2 b s) k = ix3 b s k :=
  funext fun a => Fin.ext (by match a with | ⟨0, _⟩ => rfl | ⟨1, _⟩ => rfl | ⟨2, _⟩ => rfl)

theorem rowSum_at (y : FVec Ideal S2x512x512 .f32) :
    multiReduction .add [2] S2x512 y 0x00000000#32 reduces_S2x512x512_S2x512 (.inl rfl) rfl (ix2 b s) = ∑ k : Fin 512, y (ix3 b s k) :=
  (Ideal.multiReduction_add_single y _ _ _ _ _).trans (Finset.sum_congr rfl fun k _ => congrArg y (lift_at b s k))

theorem sums_at : k0_pay4 (F := Ideal) x (ix3 u (sumRow b) s) = ∑ k : Fin 512, x (ix3 b s k) := by
  unfold k0_pay4
  rw [self_cast]
  dsimp only
  rw [shapeCast_ab_1ab_apply]
  refine (concatenate_pair_apply_left (t := S4x512) (s₁ := S2x512) 0 _ _ _ (ix2 (sumRow b) s) rfl (ix2 b s) fun a => ?_).trans (rowSum_at b s x)
  match a with | ⟨0, _⟩ => rfl | ⟨1, _⟩ => rfl

theorem squares_at_row : k0_pay4 (F := Ideal) x (ix3 u (squareRow b) s) = ∑ k : Fin 512, x (ix3 b s k) * x (ix3 b s k) := by
  unfold k0_pay4
  rw [self_cast]
  dsimp only
  rw [shapeCast_ab_1ab_apply]
  refine (concatenate_pair_apply_right (t := S4x512) (s₁ := S2x512) (s₂ := S2x512) 0 _ _ _ (ix2 (squareRow b) s) rfl rfl (ix2 b s) (fun a ha => ?_) ?_).trans
    (rowSum_at b s _)
  · match a with
    | ⟨0, _⟩ => exact absurd rfl ha
    | ⟨1, _⟩ => rfl
  · show b.val + 2 = 2 + b.val
    omega

theorem kept_at (t : Fin 512) : k0_pay5 (F := Ideal) x (ix4 u b s t) = x (ix3 b s t) := by
  unfold k0_pay5
  rw [self_cast]
  exact shapeCast_abc_1abc_apply _ _ u b s t

end

/-! ## The two products -/

section
variable (t : Vec Ideal S2x128 .f32) (w : Vec Ideal S128x512 .f32) (u : Fin 1) (b : Fin 2) (j : Fin 512)

theorem left_row (i : S2x512.Idx) (k : dot_S2x128_S128x512_S2x512_1_0_0_1_n_n.contr.Idx) :
    (dot_S2x128_S128x512_S2x512_1_0_0_1_n_n.lhsIdx i k (0 : Fin 2)).val = (i 0).val := by
  unfold DotDims.lhsIdx
  rw [dif_neg (by decide), dif_pos (by decide)]
  rfl

theorem right_column (i : S2x512.Idx) (k : dot_S2x128_S128x512_S2x512_1_0_0_1_n_n.contr.Idx) :
    (dot_S2x128_S128x512_S2x512_1_0_0_1_n_n.rhsIdx i k (1 : Fin 2)).val = (i 1).val := by
  unfold DotDims.rhsIdx
  rw [dif_neg (by decide), dif_pos (by decide)]
  rfl

theorem product_at : matmul (F := Ideal) (φ₁ := .f32) (φ₂ := .f32) dot_S2x128_S128x512_S2x512_1_0_0_1_n_n none t w (constant S2x512 .f32 0x00000000#32) (ix2 b j)
    = ∑ k : Fin 128, t (ix2 b k) * w (ix2 k j) := by
  refine (Ideal.matmul_constant_zero_apply dot_S2x128_S128x512_S2x512_1_0_0_1_n_n none t w (ix2 b j)).trans ?_
  rw [← Equiv.sum_comp (contrEquiv1 dot_S2x128_S128x512_S2x512_1_0_0_1_n_n 128 rfl rfl).symm]
  refine Finset.sum_congr rfl fun k _ => congrArg₂ (· * ·) (congrArg t (funext fun a => Fin.ext ?_)) (congrArg w (funext fun a => Fin.ext ?_))
  · match a with
    | ⟨0, _⟩ => exact left_row _ _
    | ⟨1, _⟩ => exact (DotDims.lhsIdx_val_of_single _ rfl _ _).trans (contrEquiv1_symm_val ..)
  · match a with
    | ⟨0, _⟩ => exact (DotDims.rhsIdx_val_of_single _ rfl _ _).trans (contrEquiv1_symm_val ..)
    | ⟨1, _⟩ => exact right_column _ _

theorem scale_row_at : k0_pay1 (F := Ideal) t w (ix3 u b j) = one + ∑ k : Fin 128, t (ix2 b k) * w (ix2 k j) := by
  unfold k0_pay1
  rw [shapeCast_self, shapeCast_self]
  rw [shapeCast_ab_1ab_apply]
  exact congrArg (one + ·) (product_at t w b j)

theorem shift_row_at : k0_pay2 (F := Ideal) t w (ix3 u b j) = ∑ k : Fin 128, t (ix2 b k) * w (ix2 k j) := by
  unfold k0_pay2
  rw [shapeCast_self, shapeCast_self]
  rw [shapeCast_ab_1ab_apply]
  exact product_at t w b j

end

/-! ## The output block -/

section
variable (A : FVec Ideal S4x512 .f32) (L : FVec Ideal S1x4x512 .f32) (R R' : Vec Ideal S1x1x4x512 .f32)
  (x : Vec Ideal S1x2x512x512 .f32) (S T : Vec Ideal S1x2x512 .f32) (r : Fin 4) (b : Fin 2) (s j : Fin 512)

theorem total_at : k0_pay7 (F := Ideal) L R R' (ix2 r s)
    = L (ix3 (0 : Fin 1) r s) + R (ix4 (0 : Fin 1) (0 : Fin 1) r s) + R' (ix4 (0 : Fin 1) (0 : Fin 1) r s) := by
  unfold k0_pay7
  rw [addf_apply, addf_apply, shapeCast_1ab_ab_apply, cast_11ab_ab, cast_11ab_ab]

theorem rsqrt_at (v : FVec Ideal S2x512 .f32) (i : S2x512.Idx) : rsqrt v i = Ideal.rsqrt (v i) := rfl

theorem out_at : k0_pay6 (F := Ideal) A R x S T (ix3 b s j)
    = byMoments (x (ix4 (0 : Fin 1) b s j)) (A (ix2 (sumRow b) s) + R (ix4 (0 : Fin 1) (0 : Fin 1) (sumRow b) s))
        (A (ix2 (squareRow b) s) + R (ix4 (0 : Fin 1) (0 : Fin 1) (squareRow b) s)) * S (ix3 (0 : Fin 1) b j)
      + T (ix3 (0 : Fin 1) b j) := by
  unfold k0_pay6
  rw [addf_apply, mulf_apply, mulf_apply, subf_apply, shapeCast_1abc_abc_apply, stretch_last, stretch_last, stretch_middle,
    stretch_middle, cast_ab_ab1, cast_ab_ab1, cast_ab_a1b, cast_ab_a1b, shapeCast_1ab_ab_apply, shapeCast_1ab_ab_apply]
  rw [rsqrt_at]
  rw [addf_apply, subf_apply, mulf_apply, mulf_apply, mulf_apply, mulf_apply, slice2_axis0_apply 0 _ _ b s (sumRow b) (Nat.zero_add _).symm,
    slice2_axis0_apply 2 _ _ b s (squareRow b) rfl, addf_apply, addf_apply, cast_11ab_ab, cast_11ab_ab]
  rfl

end

end Cert.Value

end
-- ==== Proof.Value.Output.lean ====
/-
  The kernel's output array on each device, at an index: `byMoments` of the element against the sums over the four
  devices, times the scale, plus the shift.
-/
module

public import proofs.«01_k».proof.Proof.KernelIdeal.Launch
public import proofs.«01_k».proof.Proof.Value.Payloads
public import Idealize.ShloMosaic.Lib.Pipeline.ValueKit.Geometry

@[expose] public section

noncomputable section

namespace Cert.Value

open Idealize.ShloMosaic Idealize.ShloMosaic.ValueIdx Idealize.ShloMosaic.TcCoe Idealize.SL.Sem Cert.KernelIdeal
  Cert.KernelIdeal.Gen Cert.KernelIdeal.Stats

attribute [local instance] Cert.KernelIdeal.Gen.facts

variable (m : (ℓ : Loc nD τ sig) → Buf (Elt Ideal) ℓ) (g : Dev nD → PrngReg) (c : Dev nD)

/-! ## A device's arrays -/

abbrev xOf (d : Dev nD) : S2x4096x512.Idx → EReal := m ((d : Thread nD τ).loc main_arg0)
abbrev tOf (d : Dev nD) : S2x128.Idx → EReal := m ((d : Thread nD τ).loc main_arg1)
abbrev scaleOf (d : Dev nD) : S128x512.Idx → EReal := m ((d : Thread nD τ).loc main_arg2)
abbrev shiftOf (d : Dev nD) : S128x512.Idx → EReal := m ((d : Thread nD τ).loc main_arg3)

/-! ## The blocks a device reads -/

/-- Row `s` of the `k`-th block, in the array. -/
def rowOf (k : Fin 8) (s : Fin 512) : Fin 4096 := ⟨k.val * 512 + s.val, by omega⟩

theorem index_x : ∀ t : Fin cfg0.N, win0_0.index t = ![0, min t.val 7, 0] :=
  (by decide +kernel : ∀ t : Fin grid0.N, win0_0.index t = ![0, min t.val 7, 0])
theorem index_t : ∀ t : Fin cfg0.N, win0_1.index t = ![0, 0] :=
  (by decide +kernel : ∀ t : Fin grid0.N, win0_1.index t = ![0, 0])
theorem index_scale : ∀ t : Fin cfg0.N, win0_2.index t = ![0, 0] :=
  (by decide +kernel : ∀ t : Fin grid0.N, win0_2.index t = ![0, 0])
theorem index_shift : ∀ t : Fin cfg0.N, win0_3.index t = ![0, 0] :=
  (by decide +kernel : ∀ t : Fin grid0.N, win0_3.index t = ![0, 0])
theorem index_out : ∀ t : Fin cfg0.N, win0_4.index t = ![0, t.val - 3, 0] :=
  (by decide +kernel : ∀ t : Fin grid0.N, win0_4.index t = ![0, t.val - 3, 0])

theorem x_at (k : Fin 8) (b : Fin 2) (s j : Fin 512) :
    X m c k (ix3 b s j) = xOf m c (ix3 b (rowOf k s) j) := by
  unfold X
  blk_simp [iblk]
  refine congrArg (xOf m c) (idx3_eq (Fin.ext ?_) (Fin.ext ?_) (Fin.ext ?_))
  · blk_simp [index_x]
  · blk_simp [index_x]
    show min k.val 7 * 512 + s.val = k.val * 512 + s.val
    omega
  · blk_simp [index_x]

theorem t_at (b : Fin 2) (j : Fin 128) : iblk m c 1 point0 (ix2 b j) = tOf m c (ix2 b j) := by
  blk_simp [iblk]
  exact congrArg (tOf m c) (idx2_eq (Fin.ext (by blk_simp [index_t])) (Fin.ext (by blk_simp [index_t])))
theorem scaleW_at (b : Fin 128) (j : Fin 512) :
    iblk m c 2 point0 (ix2 b j) = scaleOf m c (ix2 b j) := by
  blk_simp [iblk]
  exact congrArg (scaleOf m c) (idx2_eq (Fin.ext (by blk_simp [index_scale])) (Fin.ext (by blk_simp [index_scale])))
theorem shiftW_at (b : Fin 128) (j : Fin 512) :
    iblk m c 3 point0 (ix2 b j) = shiftOf m c (ix2 b j) := by
  blk_simp [iblk]
  exact congrArg (shiftOf m c) (idx2_eq (Fin.ext (by blk_simp [index_shift])) (Fin.ext (by blk_simp [index_shift])))

/-! ## The sums -/

/-- What device `d` holds of row `r` sums to this … -/
def partSum (d : Dev nD) (b : Fin 2) (r : Fin 4096) : EReal := ∑ k : Fin 512, xOf m d (ix3 b r k)
/-- … and its squares to this. -/
def partSquares (d : Dev nD) (b : Fin 2) (r : Fin 4096) : EReal :=
  ∑ k : Fin 512, xOf m d (ix3 b r k) * xOf m d (ix3 b r k)

/-- The four devices' values of `f`, the device's own first, in the order the kernel adds them. -/
def around (f : Dev nD → EReal) : EReal := f c + f (c + 1) + f (c + 2) + f (c + 3)

theorem partSum_at (d : Dev nD) (k : Fin 8) (b : Fin 2) (s : Fin 512) :
    k0_pay4 (X m d k) (ix3 (0 : Fin 1) (sumRow b) s) = partSum m d b (rowOf k s) :=
  (sums_at _ b s 0).trans (Finset.sum_congr rfl fun j _ => x_at m d k b s j)

theorem partSquares_at (d : Dev nD) (k : Fin 8) (b : Fin 2) (s : Fin 512) :
    k0_pay4 (X m d k) (ix3 (0 : Fin 1) (squareRow b) s) = partSquares m d b (rowOf k s) :=
  (squares_at_row _ b s 0).trans (Finset.sum_congr rfl fun j _ => by rw [x_at])

theorem peer_0 : pr c 0 = c + 1 := by revert c; decide
theorem peer_1 : pr c 1 = c + 2 := by revert c; decide
theorem peer_2 : pr c 2 = c + 3 := by revert c; decide

theorem slot_at (k : Fin 8) (e : Fin 3) (r : Fin 4) (s : Fin 512) :
    slotVal m c k e (ix4 (0 : Fin 1) (0 : Fin 1) r s) = k0_pay4 (X m (pr c e) k) (ix3 (0 : Fin 1) r s) := rfl

theorem gathered_at (k : Fin 8) (r : Fin 4) (s : Fin 512) :
    k0_pay7 (k0_pay4 (X m c k)) (slotVal m c k 0) (slotVal m c k 1) (ix2 r s)
        + slotVal m c k 2 (ix4 (0 : Fin 1) (0 : Fin 1) r s)
      = around c fun d => k0_pay4 (X m d k) (ix3 (0 : Fin 1) r s) := by
  rw [total_at, slot_at, slot_at, slot_at, peer_0, peer_1, peer_2]
  rfl

/-! ## The output -/

/-- The element of device `c`'s output at `(b, r, j)`. -/
def outAt (b : Fin 2) (r : Fin 4096) (j : Fin 512) : EReal :=
  byMoments (xOf m c (ix3 b r j)) (around c fun d => partSum m d b r)
      (around c fun d => partSquares m d b r)
    * (one + ∑ k : Fin 128, tOf m c (ix2 b k) * scaleOf m c (ix2 k j))
    + ∑ k : Fin 128, tOf m c (ix2 b k) * shiftOf m c (ix2 k j)

theorem outVal_at (k : Fin 8) (b : Fin 2) (s j : Fin 512) : outVal m c k (ix3 b s j) = outAt m c b (rowOf k s) j := by
  unfold outVal modScale modShift outAt
  rw [out_at, gathered_at, gathered_at, kept_at, x_at, scale_row_at, shift_row_at]
  simp only [partSum_at, partSquares_at, t_at, scaleW_at, shiftW_at]

theorem outVal_idx (k : Fin 8) (y : S2x512x512.Idx) : outVal m c k y = outAt m c (y 0) (rowOf k (y 1)) (y 2) :=
  (congrArg (outVal m c k) (eq_ix3 (n0 := 2) (n1 := 512) (n2 := 512) y)).trans (outVal_at m c k (y 0) (y 1) (y 2))

theorem outAt_congr {b b' : Fin 2} {r r' : Fin 4096} {j j' : Fin 512} (hb : b = b') (hr : r = r') (hj : j = j') :
    outAt m c b r j = outAt m c b' r' j' := by
  rw [hb, hr, hj]

theorem output_eq : finalA m g c 4 = fun i : S2x4096x512.Idx => outAt m c (i 0) (i 1) (i 2) := by
  refine (dats m g 0 c).arrAt_eq_of_covers 4 _ (by decide +kernel) fun t hf y => ?_
  have ht : 3 ≤ t.val := by
    by_contra h
    rw [flush_early t (by omega)] at hf
    exact Bool.false_ne_true hf
  have hj := jOf_val t ht
  blk_simp
  refine (outVal_idx m c (jOf t) y).trans (outAt_congr m c (Fin.ext ?_) (Fin.ext ?_) (Fin.ext ?_))
  · blk_simp [index_out]
  · blk_simp [index_out]
    show (jOf t).val * 512 + (y 1).val = (t.val - 3) * 512 + (y 1).val
    rw [show t.val - 3 = (jOf t).val by omega]
  · blk_simp [index_out]

end Cert.Value

end
-- ==== Proof.Value.Algebraic.lean ====
/-
  The value claim: where the devices' arguments are their parts of the reference's and `x` is finite, each device's
  output is its part of the reference's result. At an index the two are `byMoments` against the sums over the four
  devices and `byDeviations` against the whole row: the four sums add up to the row's, and on a finite row the two forms
  agree.
-/
module

public import proofs.«01_k».proof.Defs
public import proofs.«01_k».proof.Proof.Gen.ReferenceIdeal.Run
public import proofs.«01_k».proof.Proof.Value.Reference
public import proofs.«01_k».proof.Proof.Value.Output
public import Idealize.ShloMosaic.Lib.Layout

@[expose] public section

noncomputable section

namespace Cert.Value

open Idealize.ShloMosaic Idealize.ShloMosaic.ValueIdx Idealize.ShloMosaic.TcCoe Idealize.SL.Sem Cert.KernelIdeal
  Cert.KernelIdeal.Gen Cert.KernelIdeal.Stats

theorem facts_finite_kernel : Cert.Pre_finite_x_KernelIdeal.Facts := ⟨by decide⟩
theorem facts_finite_reference : Cert.Pre_finite_x_ReferenceIdeal.Facts := ⟨by decide⟩

attribute [local instance] Cert.KernelIdeal.Gen.facts Cert.ReferenceIdeal.Gen.facts facts_finite_kernel

/-! ## The precondition -/

/-- The precondition at an element: it is below infinity in absolute value. -/
theorem finite_at (x : S2x4096x512.Idx → EReal) (t : S2x128.Idx → EReal) (u v : S128x512.Idx → EReal)
    (h : Cert.Pre_finite_x_KernelIdeal.fn (F := Ideal) x t u v = fun _ => 1#1) (i : S2x4096x512.Idx) :
    max (x i) (-x i) < ⊤ := by
  have h1 : BitVec.ofBool (decide (max (x i) (-x i) < Ideal.ofBits .f32 0x7F800000#32)) = 1#1 := congrFun h i
  rw [infinity_eq] at h1
  by_contra hn
  rw [decide_eq_false hn] at h1
  exact absurd h1 (by decide)

/-! ## The parts -/

/-- Every channel is some device's. -/
theorem channel_surjective (n : Fin 2048) : ∃ d k, n = channel d k :=
  ⟨⟨n.val / 512, by omega⟩, ⟨n.val % 512, by omega⟩, Fin.ext (Nat.div_add_mod' n.val 512).symm⟩

variable (m : (ℓ : Loc nD τ sig) → Buf (Elt Ideal) ℓ)

/-- Where the devices' arguments are their parts of the arrays `x0 … x3`, and `x0` is finite … -/
structure Parts (x0 : (⟨3, ![2, 4096, 2048]⟩ : Shape).Idx → EReal) (x1 : S2x128.Idx → EReal)
    (x2 x3 : (⟨2, ![128, 2048]⟩ : Shape).Idx → EReal) : Prop where
  x : ∀ d b r k, xOf m d (ix3 b r k) = x0 (ix3 b r (channel d k))
  t : ∀ d, tOf m d = x1
  scale : ∀ d k j, scaleOf m d (ix2 k j) = x2 (ix2 k (channel d j))
  shift : ∀ d k j, shiftOf m d (ix2 k j) = x3 (ix2 k (channel d j))
  finite : ∀ d i, max (xOf m d i) (-xOf m d i) < ⊤

variable {m} {x0 : (⟨3, ![2, 4096, 2048]⟩ : Shape).Idx → EReal} {x1 : S2x128.Idx → EReal}
  {x2 x3 : (⟨2, ![128, 2048]⟩ : Shape).Idx → EReal}

/-- … device `c`'s output at an index is the reference's result at that row and the device's channel. -/
theorem outAt_eq (p : Parts m x0 x1 x2 x3) (c : Dev nD) (b : Fin 2) (r : Fin 4096) (j : Fin 512) :
    outAt m c b r j = Cert.ReferenceIdeal.Read.val_main_v21 (F := Ideal) x0 x1 x2 x3 (ix3 b r (channel c j)) := by
  have hS : (around c fun d => partSum m d b r) = ∑ k, x0 (ix3 b r k) := by
    simp only [around, partSum, p.x]
    exact ring_sum (fun k => x0 (ix3 b r k)) c
  have hQ : (around c fun d => partSquares m d b r) = ∑ k, x0 (ix3 b r k) * x0 (ix3 b r k) := by
    simp only [around, partSquares, p.x]
    exact ring_sum (fun k => x0 (ix3 b r k) * x0 (ix3 b r k)) c
  have hfin : ∀ n, max (x0 (ix3 b r n)) (-x0 (ix3 b r n)) < ⊤ := fun n => by
    obtain ⟨d, k, rfl⟩ := channel_surjective n
    rw [← p.x]
    exact p.finite d _
  unfold outAt
  rw [reference_at, hS, hQ, p.x, p.t, forms_agree _ (fun k => x0 (ix3 b r k)) (hfin _) hfin]
  simp only [p.scale, p.shift]

/-- Where an index of a device's part lies in the whole array. -/
theorem block_idx3 (h : Layout.Tiles ⟨3, ![2, 4096, 512]⟩ ⟨3, ![2, 4096, 2048]⟩ 2 4) (c : Fin 4)
    (i : (⟨3, ![2, 4096, 512]⟩ : Shape).Idx) : h.idx c i = ix3 (i 0) (i 1) (channel c (i 2)) :=
  idx3_eq (Fin.ext rfl) (Fin.ext rfl) (Fin.ext rfl)

theorem block_idx2 (h : Layout.Tiles ⟨2, ![128, 512]⟩ ⟨2, ![128, 2048]⟩ 1 4) (c : Fin 4)
    (i : (⟨2, ![128, 512]⟩ : Shape).Idx) : h.idx c i = ix2 (i 0) (channel c (i 1)) :=
  idx2_eq (Fin.ext rfl) (Fin.ext rfl)

theorem final_out (p : Parts m x0 x1 x2 x3) (g : Dev nD → PrngReg) (c : Dev nD) :
    finalA m g c 4 = Layout.block ⟨3, ![2, 4096, 512]⟩ ⟨3, ![2, 4096, 2048]⟩ 2 4 c
      (Cert.ReferenceIdeal.Read.val_main_v21 (F := Ideal) x0 x1 x2 x3) := by
  rw [output_eq]
  funext i
  exact (outAt_eq p c (i 0) (i 1) (i 2)).trans (congrArg _ (block_idx3 (by decide) c i).symm)

theorem algebraic : algebraic_KernelIdeal_ReferenceIdeal_pre_finite_x_KernelIdeal := by
  intro m g m' g' hpre hagree
  have p : Parts m (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2))
      (m' ((0 : Dev Cert.ReferenceIdeal.nD).tc.loc Cert.ReferenceIdeal.main_arg3)) :=
    { x := fun d b r k => (congrFun (hagree d).1 _).trans (congrArg _ (block_idx3 _ d _))
      t := fun d => (hagree d).2.1
      scale := fun d k j => (congrFun (hagree d).2.2.1 _).trans (congrArg _ (block_idx2 _ d _))
      shift := fun d k j => (congrFun (hagree d).2.2.2 _).trans (congrArg _ (block_idx2 _ d _))
      finite := fun d i => finite_at _ _ _ _ (hpre d) i }
  refine ⟨_, (θ_run _ _ _).mono (fun _ h c => ⟨(h.1 c 4).trans (final_out p g c),
      (h.1 c 0).trans (final_in m g c).1, (h.1 c 1).trans (final_in m g c).2.1,
      (h.1 c 2).trans (final_in m g c).2.2.1, (h.1 c 3).trans (final_in m g c).2.2.2⟩) (run_main m g),
    (θ_run _ _ _).mono (fun _ h => ⟨(h 0).1.trans (Cert.ReferenceIdeal.Read.val_main_v21_eq _ _ _ _), (h 0).2⟩)
      (Cert.ReferenceIdeal.Value.run m' g')⟩

end Cert.Value

end
-- ==== Proof.lean ====
/-
  `Cert.Claim`: the frames (Proof/Frames.lean), whose proofs need no precondition; the idealization, which replaces
  nothing; and the value claim (Proof/Value/Algebraic.lean).
-/
module

public import proofs.«01_k».proof.Defs
public import proofs.«01_k».proof.Proof.Frames
public import proofs.«01_k».proof.Proof.Value.Algebraic

@[expose] public section

noncomputable section

namespace Cert.Proof

theorem claim : Cert.Claim :=
  ⟨Cert.Kernel.Gen.facts, Cert.KernelIdeal.Gen.facts, Cert.ReferenceIdeal.Gen.facts,
    Cert.Value.facts_finite_kernel, Cert.Value.facts_finite_reference,
    frame_kernel, frame_ideal, fun m g _ => frame_ideal m g trivial,
    frame_reference, fun m g _ => frame_reference m g trivial, trivial, Cert.Value.algebraic⟩

end Cert.Proof

end
